-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 16, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 16, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x1024 : Shape := ⟨2, ![512, 1024]⟩
abbrev S2x256x4x64 : Shape := ⟨4, ![2, 256, 4, 64]⟩
abbrev S1024x512 : Shape := ⟨2, ![1024, 512]⟩
abbrev S_ : Shape := ⟨0, ![]⟩
abbrev S512x256 : Shape := ⟨2, ![512, 256]⟩
abbrev S2x256x256 : Shape := ⟨3, ![2, 256, 256]⟩
abbrev S4x512x256 : Shape := ⟨3, ![4, 512, 256]⟩
abbrev S3x2 : Shape := ⟨2, ![3, 2]⟩
abbrev S4x2 : Shape := ⟨2, ![4, 2]⟩
abbrev S256x256 : Shape := ⟨2, ![256, 256]⟩
abbrev S1x256x512 : Shape := ⟨3, ![1, 256, 512]⟩
abbrev S256x512 : Shape := ⟨2, ![256, 512]⟩
abbrev S1x256x256 : Shape := ⟨3, ![1, 256, 256]⟩
abbrev S256x64 : Shape := ⟨2, ![256, 64]⟩
abbrev S256 : Shape := ⟨1, ![256]⟩
abbrev S256x1 : Shape := ⟨2, ![256, 1]⟩
abbrev S1x1 : Shape := ⟨2, ![1, 1]⟩

abbrev nBuf : Space → Nat
  | .hbm => 23
  | .vmem => 7
  | .smem => 0
  | _ => 0

abbrev bufTy : (tb : Table) → Fin (tcTables nBuf tb) → BufTy
  | .hbm, ⟨0, _⟩ => ⟨S2x256x512, .bf16⟩
  | .hbm, ⟨1, _⟩ => ⟨S512x1024, .bf16⟩
  | .hbm, ⟨2, _⟩ => ⟨S2x256x4x64, .bf16⟩
  | .hbm, ⟨3, _⟩ => ⟨S2x256x4x64, .bf16⟩
  | .hbm, ⟨4, _⟩ => ⟨S1024x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .bf16⟩
  | .hbm, ⟨20, _⟩ => ⟨S2x256x256, .bf16⟩
  | .hbm, ⟨21, _⟩ => ⟨S2x256x256, .bf16⟩
  | .hbm, ⟨22, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x256, .bf16⟩
  | .local _ .vmem, ⟨3, _⟩ => ⟨S2x256x256, .bf16⟩
  | .local _ .vmem, ⟨4, _⟩ => ⟨S1024x512, .bf16⟩
  | .local _ .vmem, ⟨5, _⟩ => ⟨S2x256x512, .f32⟩
  | .local _ .vmem, ⟨6, _⟩ => ⟨S4x512x256, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c0_i32 : BitVec 32 := 0#32
  let v5 : BitVec 32 := Scalar.addi v4 c0_i32
  let c4_i32_1 : BitVec 32 := 4#32
  let c0_i32_2 : BitVec 32 := 0#32
  let v6 : BitVec 1 := Scalar.cmpi .eq c4_i32_1 c0_i32_2
  let c1_i32_3 : BitVec 32 := 1#32
  let v7 : BitVec 32 := Scalar.select v6 c1_i32_3 c4_i32_1
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_8 : BitVec 32 := 1#32
  let v16 : BitVec 32 := Scalar.muli v15 c1_i32_8
  let v17 : BitVec 32 := Scalar.addi c0_i32_9 v16
  v17.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v18 : BitVec 32 := Scalar.addi v2 c1_i32_10
  let c1_i32_11 : BitVec 32 := 1#32
  let v19 : BitVec 32 := Scalar.addi v18 c1_i32_11
  let c4_i32_12 : BitVec 32 := 4#32
  let c0_i32_13 : BitVec 32 := 0#32
  let v20 : BitVec 1 := Scalar.cmpi .eq c4_i32_12 c0_i32_13
  let c1_i32_14 : BitVec 32 := 1#32
  let v21 : BitVec 32 := Scalar.select v20 c1_i32_14 c4_i32_12
  let v22 : BitVec 32 := Scalar.remsi v19 v21
  let c0_i32_16 : BitVec 32 := 0#32
  let v24 : BitVec 1 := Scalar.cmpi .slt v22 c0_i32_16
  let c0_i32_17 : BitVec 32 := 0#32
  let v25 : BitVec 1 := Scalar.cmpi .slt v21 c0_i32_17
  let v26 : BitVec 1 := Scalar.xori v24 v25
  let c0_i32_15 : BitVec 32 := 0#32
  let v23 : BitVec 1 := Scalar.cmpi .ne v22 c0_i32_15
  let v27 : BitVec 1 := Scalar.andi v26 v23
  let v28 : BitVec 32 := Scalar.addi v22 v21
  let v29 : BitVec 32 := Scalar.select v27 v28 v22
  let c1_i32_19 : BitVec 32 := 1#32
  let v30 : BitVec 32 := Scalar.muli v29 c1_i32_19
  let v31 : BitVec 32 := Scalar.addi c0_i32_20 v30
  v31.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_21 : BitVec 32 := 1#32
  let v32 : BitVec 32 := Scalar.addi v2 c1_i32_21
  let c2_i32 : BitVec 32 := 2#32
  let v33 : BitVec 32 := Scalar.addi v32 c2_i32
  let c4_i32_22 : BitVec 32 := 4#32
  let c0_i32_23 : BitVec 32 := 0#32
  let v34 : BitVec 1 := Scalar.cmpi .eq c4_i32_22 c0_i32_23
  let c1_i32_24 : BitVec 32 := 1#32
  let v35 : BitVec 32 := Scalar.select v34 c1_i32_24 c4_i32_22
  let v36 : BitVec 32 := Scalar.remsi v33 v35
  let c0_i32_26 : BitVec 32 := 0#32
  let v38 : BitVec 1 := Scalar.cmpi .slt v36 c0_i32_26
  let c0_i32_27 : BitVec 32 := 0#32
  let v39 : BitVec 1 := Scalar.cmpi .slt v35 c0_i32_27
  let v40 : BitVec 1 := Scalar.xori v38 v39
  let c0_i32_25 : BitVec 32 := 0#32
  let v37 : BitVec 1 := Scalar.cmpi .ne v36 c0_i32_25
  let v41 : BitVec 1 := Scalar.andi v40 v37
  let v42 : BitVec 32 := Scalar.addi v36 v35
  let v43 : BitVec 32 := Scalar.select v41 v42 v36
  let c1_i32_29 : BitVec 32 := 1#32
  let v44 : BitVec 32 := Scalar.muli v43 c1_i32_29
  let v45 : BitVec 32 := Scalar.addi c0_i32_30 v44
  v45.toNat
def k0_dev4 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_93 : BitVec 32 := 1#32
  let v225 : BitVec 32 := Scalar.addi v2 c1_i32_93
  let c1_i32_94 : BitVec 32 := 1#32
  let v226 : BitVec 32 := Scalar.addi v225 c1_i32_94
  let c4_i32_95 : BitVec 32 := 4#32
  let c0_i32_96 : BitVec 32 := 0#32
  let v227 : BitVec 1 := Scalar.cmpi .eq c4_i32_95 c0_i32_96
  let c1_i32_97 : BitVec 32 := 1#32
  let v228 : BitVec 32 := Scalar.select v227 c1_i32_97 c4_i32_95
  let v229 : BitVec 32 := Scalar.remsi v226 v228
  let c0_i32_99 : BitVec 32 := 0#32
  let v231 : BitVec 1 := Scalar.cmpi .slt v229 c0_i32_99
  let c0_i32_100 : BitVec 32 := 0#32
  let v232 : BitVec 1 := Scalar.cmpi .slt v228 c0_i32_100
  let v233 : BitVec 1 := Scalar.xori v231 v232
  let c0_i32_98 : BitVec 32 := 0#32
  let v230 : BitVec 1 := Scalar.cmpi .ne v229 c0_i32_98
  let v234 : BitVec 1 := Scalar.andi v233 v230
  let v235 : BitVec 32 := Scalar.addi v229 v228
  let v236 : BitVec 32 := Scalar.select v234 v235 v229
  let c1_i32_107 : BitVec 32 := 1#32
  let v237 : BitVec 32 := Scalar.muli v236 c1_i32_107
  let v238 : BitVec 32 := Scalar.addi c0_i32_108 v237
  v238.toNat
def k0_dev5 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_113 : BitVec 32 := 1#32
  let v247 : BitVec 32 := Scalar.addi v2 c1_i32_113
  let c0_i32_114 : BitVec 32 := 0#32
  let v248 : BitVec 32 := Scalar.addi v247 c0_i32_114
  let c4_i32_115 : BitVec 32 := 4#32
  let c0_i32_116 : BitVec 32 := 0#32
  let v249 : BitVec 1 := Scalar.cmpi .eq c4_i32_115 c0_i32_116
  let c1_i32_117 : BitVec 32 := 1#32
  let v250 : BitVec 32 := Scalar.select v249 c1_i32_117 c4_i32_115
  let v251 : BitVec 32 := Scalar.remsi v248 v250
  let c0_i32_119 : BitVec 32 := 0#32
  let v253 : BitVec 1 := Scalar.cmpi .slt v251 c0_i32_119
  let c0_i32_120 : BitVec 32 := 0#32
  let v254 : BitVec 1 := Scalar.cmpi .slt v250 c0_i32_120
  let v255 : BitVec 1 := Scalar.xori v253 v254
  let c0_i32_118 : BitVec 32 := 0#32
  let v252 : BitVec 1 := Scalar.cmpi .ne v251 c0_i32_118
  let v256 : BitVec 1 := Scalar.andi v255 v252
  let v257 : BitVec 32 := Scalar.addi v251 v250
  let v258 : BitVec 32 := Scalar.select v256 v257 v251
  let c1_i32_127 : BitVec 32 := 1#32
  let v259 : BitVec 32 := Scalar.muli v258 c1_i32_127
  let v260 : BitVec 32 := Scalar.addi c0_i32_128 v259
  v260.toNat
def k0_dev6 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_133 : BitVec 32 := 1#32
  let v269 : BitVec 32 := Scalar.addi v2 c1_i32_133
  let c2_i32_134 : BitVec 32 := 2#32
  let v270 : BitVec 32 := Scalar.addi v269 c2_i32_134
  let c4_i32_135 : BitVec 32 := 4#32
  let c0_i32_136 : BitVec 32 := 0#32
  let v271 : BitVec 1 := Scalar.cmpi .eq c4_i32_135 c0_i32_136
  let c1_i32_137 : BitVec 32 := 1#32
  let v272 : BitVec 32 := Scalar.select v271 c1_i32_137 c4_i32_135
  let v273 : BitVec 32 := Scalar.remsi v270 v272
  let c0_i32_139 : BitVec 32 := 0#32
  let v275 : BitVec 1 := Scalar.cmpi .slt v273 c0_i32_139
  let c0_i32_140 : BitVec 32 := 0#32
  let v276 : BitVec 1 := Scalar.cmpi .slt v272 c0_i32_140
  let v277 : BitVec 1 := Scalar.xori v275 v276
  let c0_i32_138 : BitVec 32 := 0#32
  let v274 : BitVec 1 := Scalar.cmpi .ne v273 c0_i32_138
  let v278 : BitVec 1 := Scalar.andi v277 v274
  let v279 : BitVec 32 := Scalar.addi v273 v272
  let v280 : BitVec 32 := Scalar.select v278 v279 v273
  let c1_i32_147 : BitVec 32 := 1#32
  let v281 : BitVec 32 := Scalar.muli v280 c1_i32_147
  let v282 : BitVec 32 := Scalar.addi c0_i32_148 v281
  v282.toNat
def k0_dev7 (d0 : Dev nD) : Nat :=
  let c0_i32_203 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_188 : BitVec 32 := 1#32
  let v383 : BitVec 32 := Scalar.addi v2 c1_i32_188
  let c1_i32_189 : BitVec 32 := 1#32
  let v384 : BitVec 32 := Scalar.addi v383 c1_i32_189
  let c4_i32_190 : BitVec 32 := 4#32
  let c0_i32_191 : BitVec 32 := 0#32
  let v385 : BitVec 1 := Scalar.cmpi .eq c4_i32_190 c0_i32_191
  let c1_i32_192 : BitVec 32 := 1#32
  let v386 : BitVec 32 := Scalar.select v385 c1_i32_192 c4_i32_190
  let v387 : BitVec 32 := Scalar.remsi v384 v386
  let c0_i32_194 : BitVec 32 := 0#32
  let v389 : BitVec 1 := Scalar.cmpi .slt v387 c0_i32_194
  let c0_i32_195 : BitVec 32 := 0#32
  let v390 : BitVec 1 := Scalar.cmpi .slt v386 c0_i32_195
  let v391 : BitVec 1 := Scalar.xori v389 v390
  let c0_i32_193 : BitVec 32 := 0#32
  let v388 : BitVec 1 := Scalar.cmpi .ne v387 c0_i32_193
  let v392 : BitVec 1 := Scalar.andi v391 v388
  let v393 : BitVec 32 := Scalar.addi v387 v386
  let v394 : BitVec 32 := Scalar.select v392 v393 v387
  let c1_i32_202 : BitVec 32 := 1#32
  let v395 : BitVec 32 := Scalar.muli v394 c1_i32_202
  let v396 : BitVec 32 := Scalar.addi c0_i32_203 v395
  v396.toNat
def k0_dev8 (d0 : Dev nD) : Nat :=
  let c0_i32_222 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_207 : BitVec 32 := 1#32
  let v405 : BitVec 32 := Scalar.addi v2 c1_i32_207
  let c0_i32_208 : BitVec 32 := 0#32
  let v406 : BitVec 32 := Scalar.addi v405 c0_i32_208
  let c4_i32_209 : BitVec 32 := 4#32
  let c0_i32_210 : BitVec 32 := 0#32
  let v407 : BitVec 1 := Scalar.cmpi .eq c4_i32_209 c0_i32_210
  let c1_i32_211 : BitVec 32 := 1#32
  let v408 : BitVec 32 := Scalar.select v407 c1_i32_211 c4_i32_209
  let v409 : BitVec 32 := Scalar.remsi v406 v408
  let c0_i32_213 : BitVec 32 := 0#32
  let v411 : BitVec 1 := Scalar.cmpi .slt v409 c0_i32_213
  let c0_i32_214 : BitVec 32 := 0#32
  let v412 : BitVec 1 := Scalar.cmpi .slt v408 c0_i32_214
  let v413 : BitVec 1 := Scalar.xori v411 v412
  let c0_i32_212 : BitVec 32 := 0#32
  let v410 : BitVec 1 := Scalar.cmpi .ne v409 c0_i32_212
  let v414 : BitVec 1 := Scalar.andi v413 v410
  let v415 : BitVec 32 := Scalar.addi v409 v408
  let v416 : BitVec 32 := Scalar.select v414 v415 v409
  let c1_i32_221 : BitVec 32 := 1#32
  let v417 : BitVec 32 := Scalar.muli v416 c1_i32_221
  let v418 : BitVec 32 := Scalar.addi c0_i32_222 v417
  v418.toNat
def k0_dev9 (d0 : Dev nD) : Nat :=
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_227 : BitVec 32 := 1#32
  let v427 : BitVec 32 := Scalar.addi v2 c1_i32_227
  let c2_i32_228 : BitVec 32 := 2#32
  let v428 : BitVec 32 := Scalar.addi v427 c2_i32_228
  let c4_i32_229 : BitVec 32 := 4#32
  let c0_i32_230 : BitVec 32 := 0#32
  let v429 : BitVec 1 := Scalar.cmpi .eq c4_i32_229 c0_i32_230
  let c1_i32_231 : BitVec 32 := 1#32
  let v430 : BitVec 32 := Scalar.select v429 c1_i32_231 c4_i32_229
  let v431 : BitVec 32 := Scalar.remsi v428 v430
  let c0_i32_233 : BitVec 32 := 0#32
  let v433 : BitVec 1 := Scalar.cmpi .slt v431 c0_i32_233
  let c0_i32_234 : BitVec 32 := 0#32
  let v434 : BitVec 1 := Scalar.cmpi .slt v430 c0_i32_234
  let v435 : BitVec 1 := Scalar.xori v433 v434
  let c0_i32_232 : BitVec 32 := 0#32
  let v432 : BitVec 1 := Scalar.cmpi .ne v431 c0_i32_232
  let v436 : BitVec 1 := Scalar.andi v435 v432
  let v437 : BitVec 32 := Scalar.addi v431 v430
  let v438 : BitVec 32 := Scalar.select v436 v437 v431
  let c1_i32_241 : BitVec 32 := 1#32
  let v439 : BitVec 32 := Scalar.muli v438 c1_i32_241
  let v440 : BitVec 32 := Scalar.addi c0_i32_242 v439
  v440.toNat
def k0_off1 (d0 : Dev nD) (c0_i32_248 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_247 : BitVec 32 := 1#32
  let v449 : BitVec 32 := Scalar.addi v2 c1_i32_247
  let v450 : BitVec 32 := Scalar.addi v449 c0_i32_248
  let c4_i32_249 : BitVec 32 := 4#32
  let c0_i32_250 : BitVec 32 := 0#32
  let v451 : BitVec 1 := Scalar.cmpi .eq c4_i32_249 c0_i32_250
  let c1_i32_251 : BitVec 32 := 1#32
  let v452 : BitVec 32 := Scalar.select v451 c1_i32_251 c4_i32_249
  let v453 : BitVec 32 := Scalar.remsi v450 v452
  let c0_i32_253 : BitVec 32 := 0#32
  let v455 : BitVec 1 := Scalar.cmpi .slt v453 c0_i32_253
  let c0_i32_254 : BitVec 32 := 0#32
  let v456 : BitVec 1 := Scalar.cmpi .slt v452 c0_i32_254
  let v457 : BitVec 1 := Scalar.xori v455 v456
  let c0_i32_252 : BitVec 32 := 0#32
  let v454 : BitVec 1 := Scalar.cmpi .ne v453 c0_i32_252
  let v458 : BitVec 1 := Scalar.andi v457 v454
  let v459 : BitVec 32 := Scalar.addi v453 v452
  let v460 : BitVec 32 := Scalar.select v458 v459 v453
  let c256_i32_255 : BitVec 32 := 256#32
  let v461 : BitVec 32 := Scalar.muli v460 c256_i32_255
  let v462 : Index := Scalar.indexCast v461
  let c0_256 : Index := 0#32
  ![v462.toNat, 0]
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S2x256x1024 : Shape := ⟨3, ![2, 256, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x16x256x256 : Shape := ⟨4, ![2, 16, 256, 256]⟩
abbrev S1x1x256x256 : Shape := ⟨4, ![1, 1, 256, 256]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 142
  | .vmem => 0
  | .smem => 0
  | _ => 0

abbrev hbmTy0_0 (i : Nat) : BufTy := match i % 128 with
  | 0 => ⟨S2x256x512, .bf16⟩
  | 1 => ⟨S512x1024, .bf16⟩
  | 2 => ⟨S2x256x16x64, .bf16⟩
  | 3 => ⟨S2x256x16x64, .bf16⟩
  | 4 => ⟨S1024x512, .bf16⟩
  | 5 => ⟨S2x256x512, .f32⟩
  | 6 => ⟨S512x1024, .f32⟩
  | 7 => ⟨S2x256x16x64, .f32⟩
  | 8 => ⟨S2x256x16x64, .f32⟩
  | 9 => ⟨S1024x512, .f32⟩
  | 10 => ⟨S2x256x1024, .f32⟩
  | 11 => ⟨S2x256x16x64, .f32⟩
  | 12 => ⟨S256, .i32⟩
  | 13 => ⟨S_, .i32⟩
  | 14 => ⟨S_, .i32⟩
  | 15 => ⟨S256, .i32⟩
  | 16 => ⟨S256, .i32⟩
  | 17 => ⟨S256, .i32⟩
  | 18 => ⟨S_, .i32⟩
  | 19 => ⟨S256, .i32⟩
  | 20 => ⟨S256, .i1⟩
  | 21 => ⟨S256, .i32⟩
  | 22 => ⟨S256, .i32⟩
  | 23 => ⟨S_, .i32⟩
  | 24 => ⟨S256, .i32⟩
  | 25 => ⟨S256, .i1⟩
  | 26 => ⟨S256, .i1⟩
  | 27 => ⟨S_, .i32⟩
  | 28 => ⟨S256, .i32⟩
  | 29 => ⟨S256, .i32⟩
  | 30 => ⟨S256, .i32⟩
  | 31 => ⟨S256x1, .i32⟩
  | 32 => ⟨S256, .i32⟩
  | 33 => ⟨S_, .i32⟩
  | 34 => ⟨S_, .i32⟩
  | 35 => ⟨S256, .i32⟩
  | 36 => ⟨S256, .i32⟩
  | 37 => ⟨S256, .i32⟩
  | 38 => ⟨S_, .i32⟩
  | 39 => ⟨S256, .i32⟩
  | 40 => ⟨S256, .i1⟩
  | 41 => ⟨S256, .i32⟩
  | 42 => ⟨S256, .i32⟩
  | 43 => ⟨S_, .i32⟩
  | 44 => ⟨S256, .i32⟩
  | 45 => ⟨S256, .i1⟩
  | 46 => ⟨S256, .i1⟩
  | 47 => ⟨S_, .i32⟩
  | 48 => ⟨S256, .i32⟩
  | 49 => ⟨S256, .i32⟩
  | 50 => ⟨S256, .i32⟩
  | 51 => ⟨S1x256, .i32⟩
  | 52 => ⟨S256x256, .i32⟩
  | 53 => ⟨S256x256, .i32⟩
  | 54 => ⟨S256x256, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x256, .i32⟩
  | 62 => ⟨S1x256, .i32⟩
  | 63 => ⟨S_, .i32⟩
  | 64 => ⟨S1x256, .i32⟩
  | 65 => ⟨S1x256, .i1⟩
  | 66 => ⟨S_, .i32⟩
  | 67 => ⟨S1x256, .i32⟩
  | 68 => ⟨S1x256, .i1⟩
  | 69 => ⟨S_, .i32⟩
  | 70 => ⟨S_, .i1⟩
  | 71 => ⟨S1x256, .i1⟩
  | 72 => ⟨S1x256, .i1⟩
  | 73 => ⟨S1x256, .i1⟩
  | 74 => ⟨S1x256, .i32⟩
  | 75 => ⟨S1x256, .i32⟩
  | 76 => ⟨S1x256, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S256x1, .i32⟩
  | 84 => ⟨S256x1, .i32⟩
  | 85 => ⟨S_, .i32⟩
  | 86 => ⟨S256x1, .i32⟩
  | 87 => ⟨S256x1, .i1⟩
  | 88 => ⟨S_, .i32⟩
  | 89 => ⟨S256x1, .i32⟩
  | 90 => ⟨S256x1, .i1⟩
  | 91 => ⟨S_, .i32⟩
  | 92 => ⟨S_, .i1⟩
  | 93 => ⟨S256x1, .i1⟩
  | 94 => ⟨S256x1, .i1⟩
  | 95 => ⟨S256x1, .i1⟩
  | 96 => ⟨S256x1, .i32⟩
  | 97 => ⟨S256x1, .i32⟩
  | 98 => ⟨S256x1, .i32⟩
  | 99 => ⟨S256x256, .i32⟩
  | 100 => ⟨S256x256, .i32⟩
  | 101 => ⟨S256x256, .i1⟩
  | 102 => ⟨S256x256, .i1⟩
  | 103 => ⟨S2x16x256x256, .f32⟩
  | 104 => ⟨S_, .f32⟩
  | 105 => ⟨S2x16x256x256, .f32⟩
  | 106 => ⟨S2x16x256x256, .f32⟩
  | 107 => ⟨S1x1x256x256, .i1⟩
  | 108 => ⟨S_, .f32⟩
  | 109 => ⟨S_, .f32⟩
  | 110 => ⟨S2x16x256x256, .i1⟩
  | 111 => ⟨S2x16x256x256, .f32⟩
  | 112 => ⟨S2x16x256x256, .f32⟩
  | 113 => ⟨S_, .f32⟩
  | 114 => ⟨S2x16x256, .f32⟩
  | 115 => ⟨S2x16x256x1, .f32⟩
  | 116 => ⟨S2x16x256x256, .f32⟩
  | 117 => ⟨S2x16x256x256, .f32⟩
  | 118 => ⟨S2x16x256x256, .f32⟩
  | 119 => ⟨S_, .i1⟩
  | 120 => ⟨S256, .i1⟩
  | 121 => ⟨S1x1x256x1, .i1⟩
  | 122 => ⟨S_, .f32⟩
  | 123 => ⟨S2x16x256, .f32⟩
  | 124 => ⟨S2x16x256x1, .f32⟩
  | 125 => ⟨S_, .f32⟩
  | 126 => ⟨S_, .f32⟩
  | 127 => ⟨S2x16x256x1, .i1⟩
  | _ => ⟨S2x256x512, .bf16⟩

abbrev hbmTy0_1 (i : Nat) : BufTy := match i % 128 with
  | 0 => ⟨S2x16x256x1, .f32⟩
  | 1 => ⟨S2x16x256x1, .f32⟩
  | 2 => ⟨S2x16x256x256, .f32⟩
  | 3 => ⟨S2x16x256x256, .f32⟩
  | 4 => ⟨S1x1x256x1, .i1⟩
  | 5 => ⟨S_, .f32⟩
  | 6 => ⟨S_, .f32⟩
  | 7 => ⟨S2x16x256x256, .i1⟩
  | 8 => ⟨S2x16x256x256, .f32⟩
  | 9 => ⟨S2x16x256x256, .f32⟩
  | 10 => ⟨S2x16x64x256, .f32⟩
  | 11 => ⟨S2x256x16x64, .f32⟩
  | 12 => ⟨S2x256x1024, .f32⟩
  | 13 => ⟨S2x256x512, .f32⟩
  | _ => ⟨S2x256x512, .bf16⟩

abbrev hbmTy (i : Nat) : BufTy := match i / 128 with
  | 0 => hbmTy0_0 i
  | 1 => hbmTy0_1 i
  | _ => ⟨S2x256x512, .bf16⟩

abbrev bufTy : (tb : Table) → Fin (tcTables nBuf tb) → BufTy
  | .hbm, ⟨i, _⟩ => hbmTy i
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Common.lean ====
/-
  What the protocol proof shares: the resource algebra, the arithmetic of the four devices, the eight half slots of the
  exchange buffer, the semaphores as cells of the rounds library, what each cell hands its owner when it is paid, what each
  device owes at launch and the levels under which every wait is allowed.

  The exchange.  Device `c` writes its own context into slot 0 of its buffer, one half per batch element.  It tells the three
  other devices that their slots may be written (the barrier), waits for the same word from all three, and then sends each
  half of slot 0 to the three others.  On a device `d`, slot `1 + i` is filled by `peer i d`, the device `1 + i` places on.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Tactic
public import Idealize.ShloMosaic.Lib.Rounds
public import Idealize.ShloMosaic.Lib.Writes
public import Idealize.ShloMosaic.Lib.Ring.Trips
public import Idealize.ShloMosaic.Lib.Pipeline.Launch
public import Idealize.ShloMosaic.Lib.Pipeline.Kit
public import Idealize.ShloMosaic.Lib.Pipeline.RegionTalk

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- Two copies of the rounds library: the pipeline's, and the exchange's with up to three duties to a cell. -/
abbrev UU : Type := URounds (GSem nD τ sig) Unit × URounds (GSem nD τ sig) (Fin 3)

local notation "𝕄" => MT nD τ sig Unit (Elt F) ℕ UU ℕ

/-- The pipeline's copy. -/
abbrev EP : Emb (URounds (GSem nD τ sig) Unit) (MT nD τ sig Unit (Elt F) ℕ UU ℕ) := embL
/-- The exchange's copy. -/
abbrev ER : Emb (URounds (GSem nD τ sig) (Fin 3)) (MT nD τ sig Unit (Elt F) ℕ UU ℕ) := embR

/-! ## The four devices -/

set_option backward.proofsInPublic true in
/-- The device `1 + i` places after `c`, cyclically. -/
def peer (i : Fin 3) (c : Dev nD) : Dev nD := ⟨(c.val + 1 + i.val) % 4, Nat.mod_lt _ (by decide)⟩

/-- The step that undoes step `i`. -/
abbrev back (i : Fin 3) : Fin 3 := i.rev

/-- Going back twice is going forward. -/
theorem back_back (i : Fin 3) : back (back i) = i := Fin.rev_rev i
/-- The peer reached forward and then back is the device itself, -/
theorem peer_back (i : Fin 3) (c : Dev nD) : peer (back i) (peer i c) = c := by revert i c; decide
/-- and so back and then forward. -/
theorem back_peer (i : Fin 3) (c : Dev nD) : peer i (peer (back i) c) = c := by revert i c; decide

/-- Going on by `i` is a permutation of the devices. -/
def around (i : Fin 3) : Dev nD ≃ Dev nD := ⟨peer i, peer (back i), peer_back i, back_peer i⟩

/-! ## The exchange buffer and its half slots -/

/-- The exchange buffer, whole. -/
abbrev bufM : Memref sig .tc .vmem S4x512x256 .bf16 := Memref.whole cc0_scratch0

/-- A half of a slot lies within the landing buffer. -/
theorem half_inb (s : Fin 4) (h : Fin 2) :
    ∀ a, (![s.val, 256 * h.val, 0] : Fin 3 → Nat) a + S1x256x256.size a ≤ S4x512x256.size a := by
  revert s h; decide

/-- Half `h` of slot `s`, as a rectangle of the buffer. -/
abbrev halfR (s : Fin 4) (h : Fin 2) : Rect S4x512x256 :=
  Rect.unit (s := S4x512x256) ![s.val, 256 * h.val, 0] S1x256x256.size (half_inb s h)

/-- The view a load or a store of that half goes through. -/
abbrev halfV (s : Fin 4) (h : Fin 2) : View sig .tc .vmem S1x256x256 .bf16 := bufM.access (halfR s h)

/-- The memref a copy of that half names. -/
abbrev halfM (s : Fin 4) (h : Fin 2) : Memref sig .tc .vmem S256x256 .bf16 :=
  (bufM.slice (halfR s h) (fun _ => rfl)).squeeze S256x256 squeezes_S1x256x256_S256x256

/-- A half taken as a copy's end covers the same positions as the half itself. -/
theorem halfM_set (s : Fin 4) (h : Fin 2) : (halfM s h).view.set = (halfV s h).set := View.set_reshape _ _

/-- What one half's copy credits. -/
abbrev N : ℕ := (halfM 0 0).view.dmaCredit

/-- A copy credits a positive amount. -/
theorem N_pos : 0 < N := View.dmaCredit_pos _ (by decide)
/-- Every half credits the same amount. -/
theorem amount_half (s : Fin 4) (h : Fin 2) (q : DmaSem sig) : (halfM s h).view.amount (.dma q) = N := rfl

/-! ## The semaphores -/

/-- The barrier's. -/
abbrev barS : Sem sig := sig.barrier 0 rfl
set_option backward.proofsInPublic true in
/-- The one that counts the read-out of half `h` towards `peer j`. -/
abbrev sendS (j : Fin 3) (h : Fin 2) : DmaSem sig := ⟨6 + 2 * j.val + h.val, by have := j.isLt; have := h.isLt; show _ < 20; omega⟩
set_option backward.proofsInPublic true in
/-- The one that counts the landing of half `h` in slot `1 + i`. -/
abbrev recvS (i : Fin 3) (h : Fin 2) : DmaSem sig := ⟨14 + 2 * i.val + h.val, by have := i.isLt; have := h.isLt; show _ < 20; omega⟩

abbrev barCell (c : Dev nD) : GSem nD τ sig := ((c : Thread nD τ), .reg barS)
abbrev sendCell (c : Dev nD) (j : Fin 3) (h : Fin 2) : GSem nD τ sig := ((c : Thread nD τ), .dma (sendS j h))
abbrev recvCell (c : Dev nD) (i : Fin 3) (h : Fin 2) : GSem nD τ sig := ((c : Thread nD τ), .dma (recvS i h))

/-- The share of slot 0's half that the copy to `peer j` reads under. -/
abbrev third : Fin 3 → PosShare TreeShare := Ring.shares3 fullShare

/-- The slot index a landing from `peer i` goes to. -/
abbrev slot (i : Fin 3) : Fin 4 := i.succ

/-! ## Half slots held -/

variable (J : (cc0_scratch0 : Ref sig .tc).ty.Contents (Elt F)) (X : Dev nD → Fin 2 → Vec F S1x256x256 .bf16)

/-- Half `h` of slot `s` on device `d`, at share `q`, holding the block `w`. -/
def holds (d : Dev nD) (s : Fin 4) (h : Fin 2) (q : PosShare TreeShare) (w : Vec F S1x256x256 .bf16) : sProp 𝕄 :=
  (halfV s h).loc (d : Thread nD τ) ↦[(halfV s h).set]{q} (halfV s h).write (Elt F) J w Finset.univ

/-- The same half outright, at contents not chosen. -/
def any (d : Dev nD) (s : Fin 4) (h : Fin 2) : sProp 𝕄 :=
  iprop(∃ f, (halfV s h).loc (d : Thread nD τ) ↦[(halfV s h).set]{fullShare} f)

omit [FloatOps F] in
instance holds_storable (d : Dev nD) (s : Fin 4) (h : Fin 2) (q : PosShare TreeShare) (w : Vec F S1x256x256 .bf16) :
    BI.Storable (upEmb : UEmb _ 𝕄) (holds (F := F) J d s h q w) := by unfold holds; infer_instance
omit [FloatOps F] in
instance any_storable (d : Dev nD) (s : Fin 4) (h : Fin 2) : BI.Storable (upEmb : UEmb _ 𝕄) (any (F := F) d s h) := by
  unfold any; infer_instance

/-! ## The cells' duties -/

/-- What `peer i c` hands `c` at the barrier: the slot of its buffer that `c` fills, and that round 0 of the two cells
    counting what lands there is reached. -/
def barPay (c : Dev nD) (i : Fin 3) : sProp 𝕄 :=
  iprop((any (F := F) (peer i c) (slot (back i)) 0 ∗ any (peer i c) (slot (back i)) 1)
    ∗ reached ER (recvCell (peer i c) (back i) 0) 0 ∗ reached ER (recvCell (peer i c) (back i) 1) 0)
/-- What a landing hands: the half slot, holding the sender's block. -/
def recvPay (c : Dev nD) (i : Fin 3) (h : Fin 2) : sProp 𝕄 := holds J c (slot i) h fullShare (X (peer i c) h)
/-- What a read-out hands back: the share of the own half. -/
def sendPay (c : Dev nD) (j : Fin 3) (h : Fin 2) : sProp 𝕄 := holds J c 0 h (third j) (X c h)

/-- The payload of a cell by its semaphore. -/
def pay (c : Dev nD) : SemLoc sig → Fin 3 → sProp 𝕄
  | .reg _, d => barPay c d
  | .dma q, _ =>
    if h : 14 ≤ q.val then recvPay J X c ⟨(q.val - 14) / 2, by have := q.isLt; change _ < 20 at this; omega⟩ ⟨(q.val - 14) % 2, by omega⟩
    else if h' : 6 ≤ q.val ∧ q.val < 12 then sendPay J X c ⟨(q.val - 6) / 2, by omega⟩ ⟨(q.val - 6) % 2, by omega⟩
    else iprop(emp)

/-- The duties of a cell of a core by its semaphore: three on the barrier, one on each send and each receive cell. -/
def dutiesOf : SemLoc sig → Finset (Fin 3)
  | .reg _ => Finset.univ
  | .dma q => if 14 ≤ q.val ∨ (6 ≤ q.val ∧ q.val < 12) then {0} else ∅

/-- The exchange's schedule: one round. -/
def sched : Rounds.Schedule (GSem nD τ sig) (Fin 3) 𝕄 where
  duties g r := if r = 0 ∧ g.1.2 = .tc then dutiesOf g.2 else ∅
  unitless _ := False
  amount g _ _ := match g.2 with | .reg _ => 1 | .dma _ => N
  payload g _ d := pay J X g.1.1 g.2 d
  amount_pos g _ _ _ := by
    rcases g with ⟨t, s | q⟩
    · exact Nat.one_pos
    · exact N_pos

instance sched_storable (g : GSem nD τ sig) (r : ℕ) (d : Fin 3) :
    BI.Storable (upEmb : UEmb _ 𝕄) ((sched (F := F) J X).payload g r d) := by
  rcases g with ⟨t, s | q⟩
  · show BI.Storable _ (barPay t.1 d); unfold barPay; infer_instance
  · show BI.Storable _ (pay J X t.1 (.dma q) d)
    unfold pay
    dsimp only
    unfold recvPay sendPay
    (repeat' split) <;> infer_instance

section Sched
variable (c : Dev nD) (i j : Fin 3) (h : Fin 2)

omit [FloatOps F] in
/-- The barrier cell has three duties, one for each peer, -/
theorem duties_bar : (sched (F := F) J X).duties (barCell c) 0 = Finset.univ := by
  dsimp only [sched]; rw [if_pos ⟨rfl, rfl⟩]; rfl
omit [FloatOps F] in
/-- a send cell one, -/
theorem duties_send : (sched (F := F) J X).duties (sendCell c j h) 0 = {0} := by
  dsimp only [sched]; rw [if_pos ⟨rfl, rfl⟩]; revert j h; decide
omit [FloatOps F] in
/-- and a receive cell one. -/
theorem duties_recv : (sched (F := F) J X).duties (recvCell c i h) 0 = {0} := by
  dsimp only [sched]; rw [if_pos ⟨rfl, rfl⟩]; revert i h; decide
omit [FloatOps F] in
/-- Only round 0 has duties. -/
theorem duties_later (g : GSem nD τ sig) : ∀ r, 1 ≤ r → (sched (F := F) J X).duties g r = ∅ :=
  fun r hr => if_neg fun h => by omega

omit [FloatOps F] in
/-- A device waits for three units on the barrier, -/
theorem expect_bar : (sched (F := F) J X).expect (barCell c) 0 = 3 := by
  unfold Schedule.expect Schedule.amountOf; rw [duties_bar]; exact (Finset.sum_const _).trans rfl
omit [FloatOps F] in
/-- for one copy on a send cell, -/
theorem expect_send : (sched (F := F) J X).expect (sendCell c j h) 0 = N := by
  unfold Schedule.expect Schedule.amountOf; rw [duties_send, Finset.sum_singleton]; rfl
omit [FloatOps F] in
/-- and for one copy on a receive cell. -/
theorem expect_recv : (sched (F := F) J X).expect (recvCell c i h) 0 = N := by
  unfold Schedule.expect Schedule.amountOf; rw [duties_recv, Finset.sum_singleton]; rfl

omit [FloatOps F] in
/-- What the barrier hands over, -/
theorem payload_bar (d : Fin 3) : (sched (F := F) J X).payload (barCell c) 0 d = barPay c d := rfl
omit [FloatOps F] in
/-- what a send cell hands over, -/
theorem payload_send (d : Fin 3) : (sched (F := F) J X).payload (sendCell c j h) 0 d = sendPay J X c j h := by
  have hj := j.isLt
  have hh := h.isLt
  show (if h' : 14 ≤ (sendS j h).val then _ else if h'' : 6 ≤ (sendS j h).val ∧ (sendS j h).val < 12 then _ else _) = _
  rw [dif_neg (show ¬ 14 ≤ 6 + 2 * j.val + h.val by omega),
    dif_pos (show 6 ≤ 6 + 2 * j.val + h.val ∧ 6 + 2 * j.val + h.val < 12 by omega)]
  exact congrArg₂ (sendPay J X c) (Fin.ext (show (6 + 2 * j.val + h.val - 6) / 2 = j.val by omega))
    (Fin.ext (show (6 + 2 * j.val + h.val - 6) % 2 = h.val by omega))
omit [FloatOps F] in
/-- and what a receive cell hands over. -/
theorem payload_recv (d : Fin 3) : (sched (F := F) J X).payload (recvCell c i h) 0 d = recvPay J X c i h := by
  have hi := i.isLt
  have hh := h.isLt
  show (if h' : 14 ≤ (recvS i h).val then _ else _) = _
  rw [dif_pos (show 14 ≤ 14 + 2 * i.val + h.val by omega)]
  exact congrArg₂ (recvPay J X c) (Fin.ext (show (14 + 2 * i.val + h.val - 14) / 2 = i.val by omega))
    (Fin.ext (show (14 + 2 * i.val + h.val - 14) % 2 = h.val by omega))

omit [FloatOps F] in
/-- All that a full wait on the barrier hands over, -/
theorem rest_bar : bigSep ((sched (F := F) J X).duties (barCell c) 0 \ ∅) (fun d => (sched (F := F) J X).payload (barCell c) 0 d)
    = iprop(barPay c 0 ∗ barPay c 1 ∗ barPay c 2) := by
  rw [Finset.sdiff_empty, duties_bar, bigSep_eq_bigSepL_of_eq [0, 1, 2] (by decide) (by decide)]
  rfl
omit [FloatOps F] in
/-- on a send cell, -/
theorem rest_send : bigSep ((sched (F := F) J X).duties (sendCell c j h) 0 \ ∅) (fun d => (sched (F := F) J X).payload (sendCell c j h) 0 d)
    = sendPay J X c j h := by
  rw [Finset.sdiff_empty, duties_send, bigSep_singleton, payload_send]
omit [FloatOps F] in
/-- and on a receive cell. -/
theorem rest_recv : bigSep ((sched (F := F) J X).duties (recvCell c i h) 0 \ ∅) (fun d => (sched (F := F) J X).payload (recvCell c i h) 0 d)
    = recvPay J X c i h := by
  rw [Finset.sdiff_empty, duties_recv, bigSep_singleton, payload_recv]

end Sched

/-! ## What is owed, and the levels -/

/-- What device `c` owes the receive cell of `peer j c` for half `h`; -/
abbrev oweSend (c : Dev nD) (j : Fin 3) (h : Fin 2) : CellTallies nD τ sig Unit := tallyAt (recvCell (peer j c) (back j) h) () N
/-- and the barrier cell of `peer j c`. -/
abbrev oweBar (c : Dev nD) (j : Fin 3) : CellTallies nD τ sig Unit := tallyAt (barCell (peer j c)) () 1

/-- The six copies still owed, in the reverse of the order they are issued; -/
def owedSends (c : Dev nD) : CellTallies nD τ sig Unit :=
  ((((0 + oweSend c 2 1) + oweSend c 0 1) + oweSend c 1 1) + oweSend c 2 0) + oweSend c 0 0 + oweSend c 1 0
/-- and everything owed at launch. -/
def O₀ (c : Dev nD) : CellTallies nD τ sig Unit := owedSends c + oweBar c 2 + oweBar c 1 + oweBar c 0

/-- Every cell of a core carries the one index. -/
def L (g : GSem nD τ sig) : Finset Unit := if g.1.2 = .tc then {()} else ∅
/-- The barrier at 1, the receive cells at 2, everything else at 0. -/
def lvOf : SemLoc sig → ℕ
  | .reg _ => 1
  | .dma q => if 14 ≤ q.val then 2 else 0
def lv (g : GSem nD τ sig) (_ : Unit) : ℕ := lvOf g.2

/-- A cell outside the cores carries no index, -/
theorem L_of_ne (g : GSem nD τ sig) (h : g.1.2 ≠ .tc) : L g = ∅ := if_neg h
/-- and a cell of a core carries the one. -/
theorem L_tc (c : Dev nD) (sm : SemLoc sig) : L ((c : Thread nD τ), sm) = {()} := if_pos rfl

/-- The receive cells are on the highest level used. -/
theorem lv_recv (c : Dev nD) (i : Fin 3) (h : Fin 2) (u : Unit) : lv (recvCell c i h) u = 2 := by
  show lvOf (.dma (recvS i h)) = 2
  revert i h; decide

/-- Where the six copies owe: receive cells. -/
theorem owedSends_pos {c : Dev nD} {g : GSem nD τ sig} {u : Unit} (hg : 0 < owedSends c g u) :
    ∃ (d : Dev nD) (i : Fin 3) (h : Fin 2), g = recvCell d i h := by
  by_contra hn
  have hz : ∀ (j : Fin 3) (h : Fin 2), oweSend c j h g u = 0 := fun j h => by
    show tallyAt _ _ _ g u = 0
    rw [tallyAt_apply, if_neg fun h' => hn ⟨_, _, _, h'.1⟩]
  unfold owedSends at hg
  simp only [Pi.add_apply, Finsupp.add_apply, hz] at hg
  exact absurd hg (by simp)

/-- Where anything is owed at launch: receive and barrier cells. -/
theorem O₀_pos {c : Dev nD} {g : GSem nD τ sig} {u : Unit} (hg : 0 < O₀ c g u) :
    (∃ (d : Dev nD) (i : Fin 3) (h : Fin 2), g = recvCell d i h) ∨ ∃ d : Dev nD, g = barCell d := by
  by_contra hn
  rw [not_or] at hn
  have hz : ∀ j : Fin 3, oweBar c j g u = 0 := fun j => by
    show tallyAt _ _ _ g u = 0
    rw [tallyAt_apply, if_neg fun h' => hn.2 ⟨_, h'.1⟩]
  unfold O₀ at hg
  simp only [Pi.add_apply, Finsupp.add_apply, hz, Nat.add_zero] at hg
  exact hn.1 (owedSends_pos hg)

omit [FloatOps F] in
/-- At the barrier a core still owes its copies, which sit above it. -/
theorem mayWait_bar (c : Dev nD) : (levAts L lv : sProp 𝕄) ⊢ MayWait (c : Thread nD τ) (.reg barS) () (owedSends c) :=
  MayOwe.of_cut (L := L) (lev := lv) 1 (fun p hp => by rw [Finset.mem_singleton.mp hp, L_tc]; exact Finset.mem_singleton_self _)
    (fun g u hg => by obtain ⟨d, i, h, rfl⟩ := owedSends_pos hg; rw [L_tc]; exact Finset.mem_singleton_self _)
    (fun p hp => by rw [Finset.mem_singleton.mp hp]; exact le_rfl)
    (fun g u hg => by obtain ⟨d, i, h, rfl⟩ := owedSends_pos hg; rw [lv_recv]; decide)

end Cert.Exchange

end
-- ==== Proof.Slots.lean ====
/-
  The exchange buffer as its eight half slots: splitting the whole buffer into them and joining them again, a half split into
  the three shares the copies read under, and what a store, a load and a copy make of a half's contents.
-/
module

public import proofs.«01_k».proof.Proof.Common

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : (cc0_scratch0 : Ref sig .tc).ty.Contents (Elt F)) (X : Dev nD → Fin 2 → Vec F S1x256x256 .bf16)

/-- The elements of half `k.2` of slot `k.1`. -/
abbrev halfSet (k : Fin 4 × Fin 2) : Finset S4x512x256.Idx := (halfR k.1 k.2).set

omit [FloatOps F] in
/-- The positions of a half. -/
theorem halfV_set (s : Fin 4) (h : Fin 2) : (halfV s h).set = (halfSet (s, h) : Finset S4x512x256.Idx) := View.set_slice_whole _ _

/-- Two different halves share no element: they differ in the slot or in the rows. -/
theorem half_disjoint (k k' : Fin 4 × Fin 2) (hne : k ≠ k') : Disjoint (halfSet k) (halfSet k') := by
  by_cases h0 : k.1 = k'.1
  · have h1 : k.2 ≠ k'.2 := fun h1 => hne (Prod.ext h0 h1)
    refine Rect.unit_disjoint 1 ?_
    have h1' : k.2.val ≠ k'.2.val := fun h => h1 (Fin.ext h)
    show 256 * k.2.val + 256 ≤ 256 * k'.2.val ∨ 256 * k'.2.val + 256 ≤ 256 * k.2.val
    omega
  · refine Rect.unit_disjoint 0 ?_
    have h0' : k.1.val ≠ k'.1.val := fun h => h0 (Fin.ext h)
    show k.1.val + 1 ≤ k'.1.val ∨ k'.1.val + 1 ≤ k.1.val
    omega

/-- Every element of the buffer lies in a half. -/
theorem half_cover : (Finset.univ : Finset S4x512x256.Idx) = Finset.univ.biUnion halfSet := by
  symm
  rw [Finset.eq_univ_iff_forall]
  intro i
  have h0 : (i 0).val < 4 := (i 0).isLt
  have h1 : (i 1).val < 512 := (i 1).isLt
  have h2 : (i 2).val < 256 := (i 2).isLt
  refine Finset.mem_biUnion.mpr ⟨(⟨(i 0).val, h0⟩, ⟨(i 1).val / 256, by omega⟩), Finset.mem_univ _, ?_⟩
  refine Rect.mem_set_unit.mpr fun a => ?_
  match a with
  | ⟨0, _⟩ => show (i 0).val ≤ (i 0).val ∧ (i 0).val < (i 0).val + 1; omega
  | ⟨1, _⟩ => show 256 * ((i 1).val / 256) ≤ (i 1).val ∧ (i 1).val < 256 * ((i 1).val / 256) + 256; omega
  | ⟨2, _⟩ => show 0 ≤ (i 2).val ∧ (i 2).val < 0 + 256; omega

omit [FloatOps F] in
/-- A conjunction over the eight halves, one by one. -/
theorem bigSep_halves (Φ : Fin 4 × Fin 2 → sProp 𝕄) : bigSep Finset.univ Φ
    = iprop(Φ (0, 0) ∗ Φ (0, 1) ∗ Φ (1, 0) ∗ Φ (1, 1) ∗ Φ (2, 0) ∗ Φ (2, 1) ∗ Φ (3, 0) ∗ Φ (3, 1)) := by
  rw [bigSep_univ_eq_bigSepL [(0, 0), (0, 1), (1, 0), (1, 1), (2, 0), (2, 1), (3, 0), (3, 1)] (by decide) (by decide)]
  rfl

omit [FloatOps F] in
/-- The buffer at one contents is its eight halves at that contents. -/
theorem buffer_halves (d : Dev nD) (f : Buf (Elt F) ((d : Thread nD τ).loc cc0_scratch0)) :
    ((d : Thread nD τ).loc cc0_scratch0 ↦{fullShare} f : sProp 𝕄)
      = bigSep Finset.univ fun k : Fin 4 × Fin 2 => ((d : Thread nD τ).loc cc0_scratch0 ↦[halfSet k]{fullShare} f : sProp 𝕄) := by
  have h := pointsTo_biUnion (nD := nD) (τ := τ) (sig := sig) (Ix := Unit) (Val := Elt F) (Name := ℕ) (U := UU) (Lvl := ℕ) (ℓ := (d : Thread nD τ).loc cc0_scratch0) (q := fullShare) (f := f) Finset.univ halfSet
    fun k _ k' _ hne => half_disjoint k k' hne
  rw [← half_cover] at h
  exact h

omit [FloatOps F] in
/-- A half with any content, as a resource on its positions. -/
theorem any_eq (d : Dev nD) (k : Fin 4 × Fin 2) : (any (F := F) d k.1 k.2 : sProp 𝕄)
    = iprop(∃ f : Buf (Elt F) ((d : Thread nD τ).loc cc0_scratch0), ((d : Thread nD τ).loc cc0_scratch0) ↦[halfSet k]{fullShare} f) := by
  unfold any
  rw [halfV_set]

omit [FloatOps F] in
/-- The whole buffer falls into its eight halves; -/
theorem buffer_split (d : Dev nD) :
    iprop(∃ f : Buf (Elt F) ((d : Thread nD τ).loc cc0_scratch0), ((d : Thread nD τ).loc cc0_scratch0) ↦{fullShare} f)
      ⊢ (iprop(any d 0 0 ∗ any d 0 1 ∗ any d 1 0 ∗ any d 1 1 ∗ any d 2 0 ∗ any d 2 1 ∗ any d 3 0 ∗ any d 3 1) : sProp 𝕄) := by
  have hm (f : Buf (Elt F) ((d : Thread nD τ).loc cc0_scratch0)) :
      (bigSep Finset.univ fun k : Fin 4 × Fin 2 => ((d : Thread nD τ).loc cc0_scratch0 ↦[halfSet k]{fullShare} f : sProp 𝕄))
        ⊢ bigSep Finset.univ (fun k : Fin 4 × Fin 2 => any (F := F) d k.1 k.2) :=
    bigSep_mono fun k _ => by
      show (_ : sProp 𝕄) ⊢ _
      rw [any_eq]
      iintro H; iexists f; iexact H
  rw [← (bigSep_halves (F := F) (fun k => any d k.1 k.2) : _ = iprop(any d 0 0 ∗ any d 0 1 ∗ any d 1 0 ∗ any d 1 1 ∗ any d 2 0
    ∗ any d 2 1 ∗ any d 3 0 ∗ any d 3 1))]
  iintro ⟨%f, H⟩
  iapply (hm f)
  iapply (Entails.of_eq (buffer_halves d f)) $$ H

/-- and the eight halves join to the whole buffer. -/
theorem buffer_join (d : Dev nD) :
    (iprop(any d 0 0 ∗ any d 0 1 ∗ any d 1 0 ∗ any d 1 1 ∗ any d 2 0 ∗ any d 2 1 ∗ any d 3 0 ∗ any d 3 1) : sProp 𝕄)
      ⊢ iprop(∃ f : Buf (Elt F) ((d : Thread nD τ).loc cc0_scratch0), ((d : Thread nD τ).loc cc0_scratch0) ↦{fullShare} f) := by
  refine (Entails.of_eq (bigSep_halves (F := F) (fun k => any d k.1 k.2)).symm).trans ?_
  rw [show (fun k : Fin 4 × Fin 2 => (any (F := F) d k.1 k.2 : sProp 𝕄)) = _ from funext fun k => any_eq d k]
  haveI : Nonempty (Buf (Elt F) ((d : Thread nD τ).loc cc0_scratch0)) := ⟨fun _ => FloatOps.ofBits _ 0⟩
  refine (bigSep_exists_pi Finset.univ fun (k : Fin 4 × Fin 2) (f : Buf (Elt F) ((d : Thread nD τ).loc cc0_scratch0)) =>
    ((d : Thread nD τ).loc cc0_scratch0 ↦[halfSet k]{fullShare} f : sProp 𝕄)).trans ?_
  iintro ⟨%fs, H⟩
  ihave H' := (pointsTo_biUnion_join (nD := nD) (τ := τ) (sig := sig) (Ix := Unit) (Val := Elt F) (Name := ℕ) (U := UU) (Lvl := ℕ) (ℓ := (d : Thread nD τ).loc cc0_scratch0) (q := fullShare) Finset.univ halfSet fs (fs (0, 0))
    fun k _ k' _ hne => half_disjoint k k' hne) $$ H
  rw [← half_cover]
  icases H' with ⟨%g, -, H⟩
  iexists g
  iexact H

/-! ## Contents -/

omit [FloatOps F] in
/-- After an unmasked store of `w` the half holds `w`, whatever it held. -/
theorem stored (d : Dev nD) (s : Fin 4) (h : Fin 2) (f : (cc0_scratch0 : Ref sig .tc).ty.Contents (Elt F)) (w : Vec F S1x256x256 .bf16) :
    ((halfV s h).loc (d : Thread nD τ) ↦[(halfV s h).set]{fullShare} (halfV s h).write (Elt F) f w Finset.univ : sProp 𝕄)
      = holds J d s h fullShare w :=
  View.pointsTo_write_univ_congr (c := (d : Thread nD τ)) (halfV s h) fullShare f J w

omit [FloatOps F] in
/-- A load of a half that holds `w` reads `w`. -/
theorem loaded (s : Fin 4) (h : Fin 2) (w : Vec F S1x256x256 .bf16) :
    (halfV s h).read (Elt F) ((halfV s h).write (Elt F) J w Finset.univ) = w := View.read_write_univ _ _

omit [FloatOps F] in
/-- What a copy reads off a half that holds `w`, and what it lands: the same block, re-indexed on the way. -/
theorem landed (d : Dev nD) (s s' : Fin 4) (h : Fin 2) (f : (cc0_scratch0 : Ref sig .tc).ty.Contents (Elt F)) (w : Vec F S1x256x256 .bf16) :
    ((halfM s' h).view.loc (d : Thread nD τ) ↦[(halfM s' h).view.set]{fullShare}
        (halfM s' h).view.write (Elt F) f ((halfM s h).view.read (Elt F) ((halfV s h).write (Elt F) J w Finset.univ)) Finset.univ : sProp 𝕄)
      = holds J d s' h fullShare w := by
  rw [halfM_set]
  have e : (halfM s h).view.read (Elt F) ((halfV s h).write (Elt F) J w Finset.univ)
      = fun x => w (Shape.reshapeEquiv (squeezes_S1x256x256_S256x256 : S1x256x256.Squeezes S256x256).numel_eq x) :=
    funext fun x => congrFun (loaded J s h w) (Shape.reshapeEquiv (squeezes_S1x256x256_S256x256 : S1x256x256.Squeezes S256x256).numel_eq x)
  rw [e]
  have e' : (halfM s' h).view.write (Elt F) f
        (fun x => w (Shape.reshapeEquiv (squeezes_S1x256x256_S256x256 : S1x256x256.Squeezes S256x256).numel_eq x)) Finset.univ
      = (halfV s' h).write (Elt F) f w Finset.univ := by
    refine (View.write_reshape_univ (v := halfV s' h) _ f _).trans ?_
    congr 1
    funext x
    rw [Equiv.apply_symm_apply]
  rw [e']
  exact stored J d s' h f w

omit [FloatOps F] in
/-- The half of slot 0 held outright is held at the three shares its copies read under. -/
theorem holds_thirds (d : Dev nD) (s : Fin 4) (h : Fin 2) (w : Vec F S1x256x256 .bf16) :
    (holds J d s h fullShare w : sProp 𝕄) ⊣⊢ iprop(holds J d s h (third 0) w ∗ holds J d s h (third 1) w ∗ holds J d s h (third 2) w) :=
  Ring.pointsTo_thirds fullShare _

omit [FloatOps F] in
/-- A half with a known content is a half with some content. -/
theorem any_of_holds (d : Dev nD) (s : Fin 4) (h : Fin 2) (w : Vec F S1x256x256 .bf16) :
    (holds J d s h fullShare w : sProp 𝕄) ⊢ any d s h := by
  unfold holds any
  iintro H; iexists _; iexact H

end Cert.Exchange

end
-- ==== Proof.Steps.lean ====
/-
  The exchange's operations, one rule to each: a signal, the barrier wait, a copy's issue, a landing's wait, a read-out's wait,
  and the loads and stores of a half slot.  Every rule is stated once for all directions and halves; a use names its direction
  and shows that the printed operation is the rule's by computation.
-/
module

public import proofs.«01_k».proof.Proof.Slots

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (J : (cc0_scratch0 : Ref sig .tc).ty.Contents (Elt F)) (X : Dev nD → Fin 2 → Vec F S1x256x256 .bf16)

/-! ## The cells as finite sets -/

/-- A core's DMA cells of the exchange: send cells at `false`, receive cells at `true`. -/
abbrev dmaS (k : Bool × Fin 3 × Fin 2) : DmaSem sig := if k.1 then recvS k.2.1 k.2.2 else sendS k.2.1 k.2.2

/-- The copies' semaphores are different. -/
theorem dmaS_inj : Function.Injective dmaS := by decide

def barEmb : Dev nD ↪ GSem nD τ sig := ⟨fun c => barCell c, fun _ _ h => congrArg (fun g : GSem nD τ sig => g.1.1) h⟩
def dmaEmb : Dev nD × (Bool × Fin 3 × Fin 2) ↪ GSem nD τ sig :=
  ⟨fun ck => ((ck.1 : Thread nD τ), .dma (dmaS ck.2)), fun _ _ h =>
    Prod.ext (congrArg (fun g : GSem nD τ sig => g.1.1) h) (dmaS_inj (SemLoc.dma.inj (congrArg Prod.snd h)))⟩

/-- The barrier cells, open from the launch on; -/
abbrev barCells : Finset (GSem nD τ sig) := Finset.univ.map barEmb
/-- the send and receive cells, dormant until the kernel runs. -/
abbrev dmaCells : Finset (GSem nD τ sig) := Finset.univ.map dmaEmb

/-- The barrier cells, the send cells and the receive cells are cells of the protocol. -/
theorem bar_mem (c : Dev nD) : barCell c ∈ (barCells ∪ dmaCells : Finset (GSem nD τ sig)) :=
  Finset.mem_union_left _ (Finset.mem_map_of_mem barEmb (Finset.mem_univ c))
/-- A send cell is one. -/
theorem send_mem (c : Dev nD) (j : Fin 3) (h : Fin 2) : sendCell c j h ∈ (barCells ∪ dmaCells : Finset (GSem nD τ sig)) :=
  Finset.mem_union_right _ (Finset.mem_map_of_mem dmaEmb (Finset.mem_univ (c, (false, j, h))))
/-- A receive cell is one. -/
theorem recv_mem (c : Dev nD) (i : Fin 3) (h : Fin 2) : recvCell c i h ∈ (barCells ∪ dmaCells : Finset (GSem nD τ sig)) :=
  Finset.mem_union_right _ (Finset.mem_map_of_mem dmaEmb (Finset.mem_univ (c, (true, i, h))))

/-! ## What every device may consult -/

/-- All the cells' invariants, and that round 0 of every barrier cell is reached. -/
def records (K : GSem nD τ sig → ℕ) : sProp 𝕄 :=
  iprop((bigSep (barCells ∪ dmaCells) fun g => cellInv ER (sched J X) (K g) g) ∗ bigSep barCells fun g => reached ER g 0)

instance records_persistent (K : GSem nD τ sig → ℕ) : BI.Persistent (records J X K) := by unfold records; infer_instance

variable (K : GSem nD τ sig → ℕ)

omit [FloatOps F] in
/-- The records hold the invariant of every cell, -/
theorem records_inv {g : GSem nD τ sig} (hg : g ∈ (barCells ∪ dmaCells : Finset (GSem nD τ sig))) :
    (records J X K : sProp 𝕄) ⊢ cellInv ER (sched J X) (K g) g := by
  unfold records
  exact sep_elim_left.trans (bigSep_elim hg)

omit [FloatOps F] in
/-- and that the barrier's first round is reached. -/
theorem records_reached (c : Dev nD) : (records J X K : sProp 𝕄) ⊢ reached ER (barCell c) 0 := by
  unfold records
  exact sep_elim_right.trans (bigSep_elim (Finset.mem_map_of_mem barEmb (Finset.mem_univ c)))

/-- The core owes `O`; the waits it has recorded do not matter. -/
def owing (c : Dev nD) (O : CellTallies nD τ sig Unit) : sProp 𝕄 := iprop(∃ W, owes (c : Thread nD τ) O W)

omit [FloatOps F] in
/-- A cell past its only round gives its counter back at zero. -/
theorem close (g : GSem nD τ sig) (hg : g ∈ (barCells ∪ dmaCells : Finset (GSem nD τ sig))) :
    iprop(records J X K ∗ atPos ER g (0 + 1) ∅ 0) ⊢ (|={Set.univ}=> semVal g 0 : sProp 𝕄) :=
  (sep_mono_left (records_inv J X K hg)).trans
    (Rounds.cell_close ER (sched J X) (Set.mem_univ (K g)) id (duties_later J X g))

section Steps
variable (c : Dev nD) {A : Type}

local notation "WP" => wp frame (wpE (defs₀ (F := F)) 𝒱₀ (c : Thread nD τ) none) Set.univ

/-! ## The barrier -/

/-- Signalling `peer j c`: its barrier duty is paid with the own slot that it fills. -/
theorem signal_step (j : Fin 3) {dev : Dev nD} (hn : dev = peer j c) {z : ℤ} (hz : z = ((1 : ℕ) : ℤ))
    {O O' : CellTallies nD τ sig Unit} (hO : O = O' + oweBar c j) {k : PUnit → Prog (TpuEff nD τ sig (Elt F) Λ₀ .tc) A} {Q : A → sProp 𝕄} :
    iprop(records J X K ∗ owing c O ∗ dutyTok ER (barCell (peer j c)) 0 (back j) ∗ (any c (slot j) 0 ∗ any c (slot j) 1)
        ∗ reached ER (recvCell c j 0) 0 ∗ reached ER (recvCell c j 1) 0)
      ⊢ iprop((owing c O' -∗ WP (k ⟨⟩) Q) -∗ WP (.op (.semSignal (Dev.tc dev) barS z) k) Q) := by
  subst hn hz
  unfold owing
  iintro ⟨#HI, ⟨%W, HO⟩, Ht, Hs, Hr⟩ Hk
  iapply (Rounds.wp_signal 𝒱₀ ER (sched J X) (c : Thread nD τ) none (dst := (peer j c : Thread nD τ)) (sem := barS) (r := 0) (d := back j)
      (κ := K (barCell (peer j c))) (by rw [duties_bar]; exact Finset.mem_univ _) rfl () O' hO) $$ [HO Ht Hs Hr]
  · isplitr; · iapply (records_inv J X K (bar_mem (peer j c))); iexact HI
    isplitl [HO]; · iexact HO
    isplitl [Ht]; · iexact Ht
    isplitl [Hs Hr]
    · rw [payload_bar]; unfold barPay; rw [peer_back, back_back]
      isplitl [Hs] <;> iassumption
    · iapply (records_reached J X K (peer j c)); iexact HI
  iintro HO
  iapply Hk
  iexists W; iexact HO

/-- The barrier wait: the three words are in, the counter is back at zero and the three peers' slots are the own to fill. -/
theorem barrier_step {z : ℕ} (hz : z = 3) {k : PUnit → Prog (TpuEff nD τ sig (Elt F) Λ₀ .tc) A} {Q : A → sProp 𝕄} :
    iprop(records J X K ∗ levAts L lv ∗ owing c (owedSends c) ∗ cred (tallyAt (barCell c) () 3) ∗ atPos ER (barCell c) 0 ∅ 0)
      ⊢ iprop(((owing c (owedSends c) ∗ semVal (barCell c) 0 ∗ barPay c 0 ∗ barPay c 1 ∗ barPay c 2) -∗ WP (k ⟨⟩) Q)
        -∗ WP (.op (.semWait barS z) k) Q) := by
  subst hz
  unfold owing
  iintro ⟨#HI, #Hlev, ⟨%W, HO⟩, Hc, Hat⟩ Hk
  iapply (Rounds.wp_wait_rest_token 𝒱₀ ER (sched J X) (c : Thread nD τ) none (κ := K (barCell c))
      (wpE_semWait_eq 𝒱₀ (c : Thread nD τ) none Set.univ) (Set.mem_univ _) () (O := owedSends c) (W := W) (R := 0) (m := 0) (T := ∅)
      ((Nat.zero_add 3).trans (expect_bar J X c).symm)) $$ [Hc HO Hat]
  · isplitr; · iapply (records_inv J X K (bar_mem c)); iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar J X c)) $$ Hpay
  iapply fupd_wp
  imod (close J X K (barCell c) (bar_mem c)) $$ [Hat] with Hb
  · isplitr; · iexact HI
    iexact Hat
  imodintro
  iapply Hk
  isplitl [HO]; · iexists _; iexact HO
  isplitl [Hb] <;> iassumption

/-! ## The copies -/

/-- Sending half `h` to `peer j c`, whose slot for it is in hand. -/
theorem send_step (j : Fin 3) (h : Fin 2) {src dst : Memref sig .tc .vmem S256x256 .bf16} {dev : Dev nD} {q q' : DmaSem sig}
    (hsrc : src = halfM 0 h) (hdst : dst = halfM (slot (back j)) h) (hn : dev = peer j c) (hq : q = sendS j h) (hq' : q' = recvS (back j) h)
    {w₁ : src.view.WordExact} {w₂ : dst.view.WordExact} {hsc : dst.view.ref.isScScratch = false}
    {ty : DmaTarget.Typed .vmem (.dma q') (.remote (Dev.tc dev) dst (.dma q) hsc)}
    {O O' : CellTallies nD τ sig Unit} (hO : O = O' + oweSend c j h) {k : PUnit → Prog (TpuEff nD τ sig (Elt F) Λ₀ .tc) A} {Q : A → sProp 𝕄} :
    iprop(records J X K ∗ owing c O ∗ holds J c 0 h (third j) (X c h) ∗ any (peer j c) (slot (back j)) h
        ∗ (dutyTok ER (sendCell c j h) 0 0 ∗ reached ER (sendCell c j h) 0)
        ∗ dutyTok ER (recvCell (peer j c) (back j) h) 0 0 ∗ reached ER (recvCell (peer j c) (back j) h) 0)
      ⊢ iprop(((owing c O' ∗ cred (tallyAt (sendCell c j h) () N)) -∗ WP (k ⟨⟩) Q)
        -∗ WP (.op (.enqueueDma src (.remote (Dev.tc dev) dst (.dma q) hsc) (.dma q') w₁ w₂ ty) k) Q) := by
  subst hsrc hdst hn hq hq'
  unfold owing
  iintro ⟨#HI, ⟨%W, HO⟩, Hx, Hd, ⟨Ht, Hr⟩, Ht', Hr'⟩ Hk
  unfold any
  icases Hd with ⟨%fd, Hd⟩
  iapply (Rounds.wp_send_pointsTo 𝒱₀ ER (sched J X) (c : Thread nD τ) none (c' := (peer j c : Thread nD τ)) (src := halfM 0 h)
      (dst := halfM (slot (back j)) h) (sS := .dma (sendS j h)) (sem := .dma (recvS (back j) h)) (q := third j)
      (fs := (halfV 0 h).write (Elt F) J (X c h) Finset.univ) (κ₁ := K (sendCell c j h)) (κ₂ := K (recvCell (peer j c) (back j) h))
      (r₁ := 0) (r₂ := 0) (d₁ := 0) (d₂ := 0) (fd := fd)
      (by rw [duties_send]; exact Finset.mem_singleton_self _) (by rw [duties_recv]; exact Finset.mem_singleton_self _)
      () () N rfl rfl rfl O' hO (W := W)
      (by rw [payload_send, halfM_set]; unfold sendPay holds; exact BI.Entails.refl _)
      (by rw [payload_recv, landed]; unfold recvPay; rw [peer_back])) $$ [Hx Hd HO Ht Hr Ht' Hr']
  · isplitr; · iapply (records_inv J X K (send_mem c j h)); iexact HI
    isplitr; · iapply (records_inv J X K (recv_mem (peer j c) (back j) h)); iexact HI
    isplitl [Hx]; · rw [halfM_set]; unfold holds; iexact Hx
    isplitl [Hd]; · rw [halfM_set]; iexact Hd
    isplitl [HO]; · iexact HO
    isplitl [Ht]; · iexact Ht
    isplitl [Hr]; · iexact Hr
    isplitl [Ht'] <;> iassumption
  iintro ⟨Hc, HO⟩
  iapply Hk
  isplitl [HO]; · iexists W; iexact HO
  iexact Hc

/-- Waiting for what `peer i c` sends: its block is in the slot and the counter is back at zero. -/
theorem recv_step (i : Fin 3) (h : Fin 2) {src dst : Memref sig .tc .vmem S256x256 .bf16} {q : DmaSem sig}
    (hdst : dst = halfM (slot i) h) (hq : q = recvS i h) {w₁ : src.view.WordExact} {w₂ : dst.view.WordExact}
    {k : PUnit → Prog (TpuEff nD τ sig (Elt F) Λ₀ .tc) A} {Q : A → sProp 𝕄} :
    iprop(records J X K ∗ owing c 0 ∗ cred (tallyAt (recvCell c i h) () N) ∗ atPos ER (recvCell c i h) 0 ∅ 0)
      ⊢ iprop(((owing c 0 ∗ semVal (recvCell c i h) 0 ∗ holds J c (slot i) h fullShare (X (peer i c) h)) -∗ WP (k ⟨⟩) Q)
        -∗ WP (.op (.waitDma2 q src dst w₁ w₂) k) Q) := by
  subst hdst hq
  unfold owing
  iintro ⟨#HI, ⟨%W, HO⟩, Hc, Hat⟩ Hk
  iapply (Rounds.wp_wait_rest_token 𝒱₀ ER (sched J X) (c : Thread nD τ) none (κ := K (recvCell c i h))
      (wpE_waitDma2_eq (src := src) (hsrc := w₁) (hdst := w₂) 𝒱₀ (c : Thread nD τ) none Set.univ) (Set.mem_univ _) () (O := 0) (W := W) (R := 0) (m := 0) (T := ∅)
      ((Nat.zero_add N).trans (expect_recv J X c i h).symm)) $$ [Hc HO Hat]
  · isplitr; · iapply (records_inv J X K (recv_mem c i h)); iexact HI
    isplitl [Hc]; · iexact Hc
    isplitl [HO]; · iexact HO
    isplitr; · rw [MayWait_zero]; iempintro
    iexact Hat
  iintro ⟨HO, Hat, -, Hpay⟩
  ihave Hp := (Entails.of_eq (rest_recv J X c i h)) $$ Hpay
  iapply fupd_wp
  imod (close J X K (recvCell c i h) (recv_mem c i h)) $$ [Hat] with Hb
  · isplitr; · iexact HI
    iexact Hat
  imodintro
  iapply Hk
  isplitl [HO]; · iexists _; iexact HO
  unfold recvPay
  isplitl [Hb] <;> iassumption

/-- Waiting for a read-out: the share of the own half is back and the counter is back at zero. -/
theorem readout_step (j : Fin 3) (h : Fin 2) {src dst : Memref sig .tc .vmem S256x256 .bf16} {q : DmaSem sig}
    (hdst : dst = halfM 0 h) (hq : q = sendS j h) {w₁ : src.view.WordExact} {w₂ : dst.view.WordExact}
    {k : PUnit → Prog (TpuEff nD τ sig (Elt F) Λ₀ .tc) A} {Q : A → sProp 𝕄} :
    iprop(records J X K ∗ owing c 0 ∗ cred (tallyAt (sendCell c j h) () N) ∗ atPos ER (sendCell c j h) 0 ∅ 0)
      ⊢ iprop(((owing c 0 ∗ semVal (sendCell c j h) 0 ∗ holds J c 0 h (third j) (X c h)) -∗ WP (k ⟨⟩) Q)
        -∗ WP (.op (.waitDma2 q src dst w₁ w₂) k) Q) := by
  subst hdst hq
  unfold owing
  iintro ⟨#HI, ⟨%W, HO⟩, Hc, Hat⟩ Hk
  iapply (Rounds.wp_wait_rest_token 𝒱₀ ER (sched J X) (c : Thread nD τ) none (κ := K (sendCell c j h))
      (wpE_waitDma2_eq (src := src) (hsrc := w₁) (hdst := w₂) 𝒱₀ (c : Thread nD τ) none Set.univ) (Set.mem_univ _) () (O := 0) (W := W) (R := 0) (m := 0) (T := ∅)
      ((Nat.zero_add N).trans (expect_send J X c j h).symm)) $$ [Hc HO Hat]
  · isplitr; · iapply (records_inv J X K (send_mem c j h)); iexact HI
    isplitl [Hc]; · iexact Hc
    isplitl [HO]; · iexact HO
    isplitr; · rw [MayWait_zero]; iempintro
    iexact Hat
  iintro ⟨HO, Hat, -, Hpay⟩
  ihave Hp := (Entails.of_eq (rest_send J X c j h)) $$ Hpay
  iapply fupd_wp
  imod (close J X K (sendCell c j h) (send_mem c j h)) $$ [Hat] with Hb
  · isplitr; · iexact HI
    iexact Hat
  imodintro
  iapply Hk
  isplitl [HO]; · iexists _; iexact HO
  unfold sendPay
  isplitl [Hb] <;> iassumption

/-! ## Loads and stores of a half -/

/-- Reading a half slot that holds `w`. -/
theorem half_load (s : Fin 4) (h : Fin 2) {r : Rect S4x512x256} (hr : r = halfR s h) {hl : bufM.view.LoadsAt r.toLoadRect}
    {w : Vec F S1x256x256 .bf16} {k : (r.shape.Idx → Elt F .bf16) → Prog (TpuEff nD τ sig (Elt F) Λ₀ .tc) A}
    {k' : Vec F S1x256x256 .bf16 → Prog (TpuEff nD τ sig (Elt F) Λ₀ .tc) A} (hk : HEq k k') {Q : A → sProp 𝕄} :
    (holds J c s h fullShare w : sProp 𝕄)
      ⊢ iprop((holds J c s h fullShare w -∗ WP (k' w) Q) -∗ WP (.op (.load bufM r.toLoadRect hl) k) Q) := by
  subst hr
  obtain rfl := eq_of_heq hk
  unfold holds
  iintro H Hk
  iapply (wp_load_rect 𝒱₀ (c : Thread nD τ) none Set.univ (m := bufM) (r := halfR s h) (S := (halfV s h).set) (Finset.Subset.refl _)) $$ H
  rw [loaded]
  iexact Hk

/-- Reading a half slot of contents not known: a read nothing uses. -/
theorem half_peek (s : Fin 4) (h : Fin 2) {r : Rect S4x512x256} (hr : r = halfR s h) {hl : bufM.view.LoadsAt r.toLoadRect}
    {k : (r.shape.Idx → Elt F .bf16) → Prog (TpuEff nD τ sig (Elt F) Λ₀ .tc) A} {Q : A → sProp 𝕄} :
    (any c s h : sProp 𝕄)
      ⊢ iprop((∀ v, any c s h -∗ WP (k v) Q) -∗ WP (.op (.load bufM r.toLoadRect hl) k) Q) := by
  subst hr
  unfold any
  iintro ⟨%f, H⟩ Hk
  iapply (wp_load_rect 𝒱₀ (c : Thread nD τ) none Set.univ (m := bufM) (r := halfR s h) (S := (halfV s h).set) (Finset.Subset.refl _)) $$ H
  iintro H
  iapply Hk
  iexists f; iexact H

/-- Storing `w` to a half slot. -/
theorem half_store (s : Fin 4) (h : Fin 2) {r : Rect S4x512x256} (hr : r = halfR s h) {w : r.shape.Idx → Elt F .bf16}
    {w' : Vec F S1x256x256 .bf16} (hw : HEq w w') {Mk : Finset r.shape.Idx} (hMk : Mk = Finset.univ)
    {hx : (bufM.access r).Stores Mk} {hm : Mk = Finset.univ ∨ ∀ a, r.stride a = 1} {k : PUnit → Prog (TpuEff nD τ sig (Elt F) Λ₀ .tc) A} {Q : A → sProp 𝕄} :
    (any c s h : sProp 𝕄)
      ⊢ iprop((holds J c s h fullShare w' -∗ WP (k ⟨⟩) Q) -∗ WP (.op (.store bufM r w Mk hx hm) k) Q) := by
  subst hr hMk
  obtain rfl := eq_of_heq hw
  unfold any
  iintro ⟨%f, H⟩ Hk
  iapply (wp_store 𝒱₀ (c : Thread nD τ) none Set.univ (m := bufM) (r := halfR s h) (S := (halfV s h).set) (View.setOn_subset_set _ _)) $$ H
  iintro H
  iapply Hk
  iapply (Entails.of_eq (stored J c s h f w)) $$ H

end Steps

end Cert.Exchange

end
-- ==== Proof.Content.lean ====
/-
  What one device computes, as functions of the five blocks it stages: the mask over queries and keys, the context of each
  batch element (what is sent), and, from the other devices' contexts, the two halves of the result.
-/
module

public import proofs.«01_k».proof.Proof.Common

@[expose] public section

noncomputable section

namespace Cert.Exchange

open Cert.KernelIdeal Cert.KernelIdeal.Gen
open Idealize.ShloMosaic Idealize.ShloMosaic.TcCoe
open Idealize.SL Idealize.SL.Sem

variable {F : FTy → Type} [FloatOps F]

/-- The five blocks a device stages: the activations, its columns of the query weights, its keys, its values and the whole
    output weights. -/
structure Blocks (F : FTy → Type) where
  x : Vec F S2x256x512 .bf16
  wq : Vec F S512x256 .bf16
  k : Vec F S2x256x256 .bf16
  v : Vec F S2x256x256 .bf16
  wo : Vec F S1024x512 .bf16

/-! ## The rectangles the body reads and writes -/

/-- Batch element `b` of the activations, and of the result; -/
theorem xR_inb (b : Fin 2) : ∀ a, (![b.val, 0, 0] : Fin 3 → Nat) a + S1x256x512.size a ≤ S2x256x512.size a := by
  revert b; decide
abbrev xR (b : Fin 2) : Rect S2x256x512 := Rect.unit (s := S2x256x512) ![b.val, 0, 0] S1x256x512.size (xR_inb b)
/-- of the keys and of the values; -/
theorem kR_inb (b : Fin 2) : ∀ a, (![b.val, 0, 0] : Fin 3 → Nat) a + S1x256x256.size a ≤ S2x256x256.size a := by
  revert b; decide
abbrev kR (b : Fin 2) : Rect S2x256x256 := Rect.unit (s := S2x256x256) ![b.val, 0, 0] S1x256x256.size (kR_inb b)
/-- the query weights, whole; -/
abbrev wqR : Rect S512x256 := Rect.unit (s := S512x256) ![0, 0] S512x256.size inb_S512x256_S512x256_0_0
/-- the rows of the output weights that belong to the device `1 + r` places after `c`. -/
abbrev woR (c : Dev nD) (r : Fin 4) : Rect S1024x512 :=
  Rect.unit (s := S1024x512) (k0_off1 c (BitVec.ofNat 32 r.val)) S256x512.size (k0_off1_inb c r)

/-- The staging buffers. -/
abbrev xM : Memref sig .tc .vmem S2x256x512 .bf16 := Memref.whole cc0_stg0_0
abbrev wqM : Memref sig .tc .vmem S512x256 .bf16 := Memref.whole cc0_stg1_0
abbrev kM : Memref sig .tc .vmem S2x256x256 .bf16 := Memref.whole cc0_stg2_0
abbrev vM : Memref sig .tc .vmem S2x256x256 .bf16 := Memref.whole cc0_stg3_0
abbrev woM : Memref sig .tc .vmem S1024x512 .bf16 := Memref.whole cc0_stg4_0
abbrev outM : Memref sig .tc .vmem S2x256x512 .f32 := Memref.whole cc0_stg5_0

namespace Blocks
variable (B : Blocks F)

/-- What the loads read. -/
def xb (b : Fin 2) : Vec F S1x256x512 .bf16 := (xM.access (xR b)).read (Elt F) B.x
def wqb : Vec F S512x256 .bf16 := (wqM.access wqR).read (Elt F) B.wq
def kb (b : Fin 2) : Vec F S1x256x256 .bf16 := (kM.access (kR b)).read (Elt F) B.k
def vb (b : Fin 2) : Vec F S1x256x256 .bf16 := (vM.access (kR b)).read (Elt F) B.v
def wob (c : Dev nD) (r : Fin 4) : Vec F S256x512 .bf16 := (woM.access (woR c r)).read (Elt F) B.wo

end Blocks

/-! ## The mask -/

/-- Which keys a query attends to, as one bit per pair; the same on every device and for every head. -/
def mask : IVec S256x256 1 :=
  k0_pay7 (k0_pay4 (iota .tc S256x256 32 [1] iota_S256x256_d1_w32) k0_pay1 64#32 k0_pay2)
    (k0_pay5 (iota .tc S256x256 32 [1] iota_S256x256_d1_w32) 64#32 k0_pay2) (Scalar.select (Scalar.cmpi .eq 4#32 0#32) 1#32 4#32)
    (k0_pay6 k0_pay1) 0#32

namespace Blocks
variable (B : Blocks F)

/-! ## The contexts -/

def q0 : FVec F S256x256 .bf16 := k0_pay9 B.wqb (B.xb 0)
def k0 : FVec F S256x256 .bf16 := k0_pay10 (B.kb 0)
def v0 : FVec F S256x256 .bf16 := k0_pay11 (B.vb 0)
/-- Batch element 0's head 0, the score product of its head 1, and so on: the pieces as the program cuts them. -/
def s0 : FVec F S256x256 .f32 :=
  k0_pay13 (k0_pay4 (iota .tc S256x256 32 [1] iota_S256x256_d1_w32) k0_pay1 64#32 k0_pay2)
    (k0_pay5 (iota .tc S256x256 32 [1] iota_S256x256_d1_w32) 64#32 k0_pay2) (Scalar.select (Scalar.cmpi .eq 4#32 0#32) 1#32 4#32)
    (k0_pay6 k0_pay1) 0#32 B.wqb (B.xb 0) (B.kb 0)

/-- The context of batch element 0 as the device uses it itself; -/
def own0 : FVec F S256x256 .bf16 :=
  k0_pay20 mask (k0_pay14 (k0_pay12 (B.vb 0)) B.s0) (k0_pay15 mask B.q0 B.k0 B.v0) (k0_pay16 mask B.q0 B.k0 B.v0)
    (k0_pay17 B.q0) (k0_pay18 B.k0) (k0_pay19 B.v0) (constant S256x256 .f32 0x00000000#32)
/-- and as it stores it to be sent. -/
def sent0 : FVec F S1x256x256 .bf16 :=
  k0_pay21 mask (k0_pay14 (k0_pay12 (B.vb 0)) B.s0) (k0_pay15 mask B.q0 B.k0 B.v0) (k0_pay16 mask B.q0 B.k0 B.v0)
    (k0_pay17 B.q0) (k0_pay18 B.k0) (k0_pay19 B.v0) (constant S256x256 .f32 0x00000000#32)

def q1 : FVec F S256x256 .bf16 := k0_pay22 (k0_pay8 B.wqb) (B.xb 1)
def k1 : FVec F S256x256 .bf16 := k0_pay23 (B.kb 1)
def v1 : FVec F S256x256 .bf16 := k0_pay24 (B.vb 1)

/-- The same for batch element 1. -/
def own1 : FVec F S256x256 .bf16 :=
  k0_pay29 mask B.q1 B.k1 B.v1 (k0_pay25 mask B.q1 B.k1 B.v1) (k0_pay26 mask B.q1 B.k1 B.v1) (k0_pay27 B.v1) (k0_pay28 B.q1 B.k1)
def sent1 : FVec F S1x256x256 .bf16 :=
  k0_pay30 mask B.q1 B.k1 B.v1 (k0_pay25 mask B.q1 B.k1 B.v1) (k0_pay26 mask B.q1 B.k1 B.v1) (k0_pay27 B.v1) (k0_pay28 B.q1 B.k1)

/-- What is sent for batch element `h`. -/
def sent (h : Fin 2) : Vec F S1x256x256 .bf16 := if h = 0 then B.sent0 else B.sent1

/-- What is sent for batch element 0, -/
theorem sent_zero : B.sent 0 = B.sent0 := rfl
/-- and for batch element 1. -/
theorem sent_one : B.sent 1 = B.sent1 := rfl

/-! ## The result -/

variable (c : Dev nD) (X : Dev nD → Fin 2 → Vec F S1x256x256 .bf16)

/-- The two halves of device `c`'s result, from the contexts `X` that the other devices send. -/
def out0 : FVec F S1x256x512 .f32 :=
  k0_pay40 (k0_pay38 (k0_pay32 (B.wob c 1))
    (k0_pay37 (k0_pay31 (B.wob c 0)) (k0_pay33 (B.wob c 2)) (k0_pay35 B.own0 (B.wob c 3)) (X (peer 0 c) 0) (X (peer 2 c) 0))
    (X (peer 1 c) 0))
def out1 : FVec F S1x256x512 .f32 :=
  k0_pay41 (k0_pay32 (B.wob c 1)) (k0_pay33 (B.wob c 2))
    (k0_pay39 (k0_pay31 (B.wob c 0)) (k0_pay36 B.own1 (B.wob c 3)) (X (peer 0 c) 1)) (X (peer 2 c) 1) (X (peer 1 c) 1)

/-- The result's staging buffer after the two stores, whatever it held before. -/
def outAfter (f : (cc0_stg5_0 : Ref sig .tc).ty.Contents (Elt F)) : (cc0_stg5_0 : Ref sig .tc).ty.Contents (Elt F) :=
  (outM.access (xR 1)).write (Elt F) ((outM.access (xR 0)).write (Elt F) f (B.out0 c X) Finset.univ) (B.out1 c X) Finset.univ

end Blocks

/-! ## The stored result, pointwise -/

/-- A position of a half, forgetting the batch element. -/
def inner (i : S2x256x512.Idx) : S1x256x512.Idx := fun
  | 0 => ⟨0, Nat.zero_lt_one⟩
  | 1 => i 1
  | 2 => i 2

/-- A position of the result is its place in the half of its batch element. -/
theorem emb_inner (b : Fin 2) (i : S2x256x512.Idx) (hi : (i 0).val = b.val) : (outM.access (xR b)).emb (inner i) = i := by
  refine funext fun a => Fin.ext ?_
  show (![b.val, 0, 0] : Fin 3 → Nat) a + 1 * (inner i a).val = (i a).val
  fin_cases a
  · show b.val + 1 * 0 = (i 0).val
    omega
  · show 0 + 1 * (i 1).val = (i 1).val
    omega
  · show 0 + 1 * (i 2).val = (i 2).val
    omega

/-- A position of the other batch element lies outside the half. -/
theorem notMem_xR {b : Fin 2} {i : S2x256x512.Idx} (hi : (i 0).val ≠ b.val) : i ∉ (outM.access (xR b)).set := by
  intro h
  obtain ⟨x, -, rfl⟩ := Finset.mem_map.1 h
  refine hi ?_
  show b.val + 1 * (x 0).val = b.val
  have : (x 0).val < 1 := (x 0).isLt
  omega

namespace Blocks
variable (B : Blocks F) (c : Dev nD) (X : Dev nD → Fin 2 → Vec F S1x256x256 .bf16)

/-- The result: the two halves, by batch element. -/
def out : Vec F S2x256x512 .f32 := fun i => if (i 0).val = 0 then B.out0 c X (inner i) else B.out1 c X (inner i)

/-- After the two stores the staging buffer holds the result, whatever it held before. -/
theorem outAfter_eq (f : (cc0_stg5_0 : Ref sig .tc).ty.Contents (Elt F)) : B.outAfter c X f = B.out c X := by
  funext i
  have hlt : (i 0).val < 2 := (i 0).isLt
  unfold outAfter out
  by_cases h : (i 0).val = 0
  · rw [if_pos h, View.write_of_not_mem _ _ _ (notMem_xR (by rw [h]; decide))]
    conv_lhs => rw [← emb_inner 0 i h]
    rw [View.write_emb_of_mem _ _ (Finset.mem_univ _)]
    rfl
  · rw [if_neg h]
    conv_lhs => rw [← emb_inner 1 i (show (i 0).val = 1 by omega)]
    rw [View.write_emb_of_mem _ _ (Finset.mem_univ _)]
    rfl

end Blocks

end Cert.Exchange

end
-- ==== Proof.Parts.lean ====
/-
  The body's parts, one lemma for each part that touches memory or a semaphore: what it takes, what it leaves, and what it
  returns to the next.  Blocks are read where they are staged; the exchange goes through the steps of the protocol.
-/
module

public import proofs.«01_k».proof.Proof.Steps
public import proofs.«01_k».proof.Proof.Content

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : (cc0_scratch0 : Ref sig .tc).ty.Contents (Elt F)) (X : Dev nD → Fin 2 → Vec F S1x256x256 .bf16) (K : GSem nD τ sig → ℕ)
  (c : Dev nD) (B : Blocks F)

/-- A staging buffer of device `c`, held whole. -/
abbrev staged (b : Ref sig .tc) (f : b.ty.Contents (Elt F)) : sProp 𝕄 := iprop(((c : Thread nD τ).loc b) ↦{fullShare} f)

local notation "WP" => wp frame (wpE (defs₀ (F := F)) 𝒱₀ (c : Thread nD τ) none) Set.univ

/-! ## Which device is meant -/

/-- The target of signal 1. -/
theorem dev1 : (⟨k0_dev1 c, k0_dev1_lt c⟩ : Dev nD) = peer 0 c := by revert c; decide +kernel
/-- The target of signal 2. -/
theorem dev2 : (⟨k0_dev2 c, k0_dev2_lt c⟩ : Dev nD) = peer 1 c := by revert c; decide +kernel
/-- The target of signal 3. -/
theorem dev3 : (⟨k0_dev3 c, k0_dev3_lt c⟩ : Dev nD) = peer 2 c := by revert c; decide +kernel
/-- The target of copy 1. -/
theorem dev4 : (⟨k0_dev4 c, k0_dev4_lt c⟩ : Dev nD) = peer 1 c := by revert c; decide +kernel
/-- The target of copy 2. -/
theorem dev5 : (⟨k0_dev5 c, k0_dev5_lt c⟩ : Dev nD) = peer 0 c := by revert c; decide +kernel
/-- The target of copy 3. -/
theorem dev6 : (⟨k0_dev6 c, k0_dev6_lt c⟩ : Dev nD) = peer 2 c := by revert c; decide +kernel
/-- The target of copy 4. -/
theorem dev7 : (⟨k0_dev7 c, k0_dev7_lt c⟩ : Dev nD) = peer 1 c := by revert c; decide +kernel
/-- The target of copy 5. -/
theorem dev8 : (⟨k0_dev8 c, k0_dev8_lt c⟩ : Dev nD) = peer 0 c := by revert c; decide +kernel
/-- The target of copy 6. -/
theorem dev9 : (⟨k0_dev9 c, k0_dev9_lt c⟩ : Dev nD) = peer 2 c := by revert c; decide +kernel

/-! ## Loads of staged blocks -/

section Loads
variable {A : Type}

/-- Reading a batch element of the staged activations; -/
theorem load_x (b : Fin 2) {r : Rect S2x256x512} (hr : r = xR b) {hl : xM.view.LoadsAt r.toLoadRect}
    {k : (r.shape.Idx → Elt F .bf16) → Prog (TpuEff nD τ sig (Elt F) Λ₀ .tc) A} {k' : Vec F S1x256x512 .bf16 → Prog (TpuEff nD τ sig (Elt F) Λ₀ .tc) A}
    (hk : HEq k k') {Q : A → sProp 𝕄} :
    (staged c cc0_stg0_0 B.x : sProp 𝕄)
      ⊢ iprop((staged c cc0_stg0_0 B.x -∗ WP (k' (B.xb b)) Q) -∗ WP (.op (.load xM r.toLoadRect hl) k) Q) := by
  subst hr
  obtain rfl := eq_of_heq hk
  exact wp_load_rect 𝒱₀ (c : Thread nD τ) none Set.univ (m := xM) (r := xR b) (S := Finset.univ) (Finset.subset_univ _)

/-- the staged query weights; -/
theorem load_wq {r : Rect S512x256} (hr : r = wqR) {hl : wqM.view.LoadsAt r.toLoadRect}
    {k : (r.shape.Idx → Elt F .bf16) → Prog (TpuEff nD τ sig (Elt F) Λ₀ .tc) A} {k' : Vec F S512x256 .bf16 → Prog (TpuEff nD τ sig (Elt F) Λ₀ .tc) A}
    (hk : HEq k k') {Q : A → sProp 𝕄} :
    (staged c cc0_stg1_0 B.wq : sProp 𝕄)
      ⊢ iprop((staged c cc0_stg1_0 B.wq -∗ WP (k' (B.wqb)) Q) -∗ WP (.op (.load wqM r.toLoadRect hl) k) Q) := by
  subst hr
  obtain rfl := eq_of_heq hk
  exact wp_load_rect 𝒱₀ (c : Thread nD τ) none Set.univ (m := wqM) (r := wqR) (S := Finset.univ) (Finset.subset_univ _)

/-- a batch element of the staged keys; -/
theorem load_k (b : Fin 2) {r : Rect S2x256x256} (hr : r = kR b) {hl : kM.view.LoadsAt r.toLoadRect}
    {k : (r.shape.Idx → Elt F .bf16) → Prog (TpuEff nD τ sig (Elt F) Λ₀ .tc) A} {k' : Vec F S1x256x256 .bf16 → Prog (TpuEff nD τ sig (Elt F) Λ₀ .tc) A}
    (hk : HEq k k') {Q : A → sProp 𝕄} :
    (staged c cc0_stg2_0 B.k : sProp 𝕄)
      ⊢ iprop((staged c cc0_stg2_0 B.k -∗ WP (k' (B.kb b)) Q) -∗ WP (.op (.load kM r.toLoadRect hl) k) Q) := by
  subst hr
  obtain rfl := eq_of_heq hk
  exact wp_load_rect 𝒱₀ (c : Thread nD τ) none Set.univ (m := kM) (r := kR b) (S := Finset.univ) (Finset.subset_univ _)

/-- of the staged values; -/
theorem load_v (b : Fin 2) {r : Rect S2x256x256} (hr : r = kR b) {hl : vM.view.LoadsAt r.toLoadRect}
    {k : (r.shape.Idx → Elt F .bf16) → Prog (TpuEff nD τ sig (Elt F) Λ₀ .tc) A} {k' : Vec F S1x256x256 .bf16 → Prog (TpuEff nD τ sig (Elt F) Λ₀ .tc) A}
    (hk : HEq k k') {Q : A → sProp 𝕄} :
    (staged c cc0_stg3_0 B.v : sProp 𝕄)
      ⊢ iprop((staged c cc0_stg3_0 B.v -∗ WP (k' (B.vb b)) Q) -∗ WP (.op (.load vM r.toLoadRect hl) k) Q) := by
  subst hr
  obtain rfl := eq_of_heq hk
  exact wp_load_rect 𝒱₀ (c : Thread nD τ) none Set.univ (m := vM) (r := kR b) (S := Finset.univ) (Finset.subset_univ _)

/-- rows of the staged output weights. -/
theorem load_wo (i : Fin 4) {r : Rect S1024x512} (hr : r = woR c i) {hl : woM.view.LoadsAt r.toLoadRect}
    {k : (r.shape.Idx → Elt F .bf16) → Prog (TpuEff nD τ sig (Elt F) Λ₀ .tc) A} {k' : Vec F S256x512 .bf16 → Prog (TpuEff nD τ sig (Elt F) Λ₀ .tc) A}
    (hk : HEq k k') {Q : A → sProp 𝕄} :
    (staged c cc0_stg4_0 B.wo : sProp 𝕄)
      ⊢ iprop((staged c cc0_stg4_0 B.wo -∗ WP (k' (B.wob c i)) Q) -∗ WP (.op (.load woM r.toLoadRect hl) k) Q) := by
  subst hr
  obtain rfl := eq_of_heq hk
  exact wp_load_rect 𝒱₀ (c : Thread nD τ) none Set.univ (m := woM) (r := woR c i) (S := Finset.univ) (Finset.subset_univ _)

/-- Reading a half of the result's staging buffer: a read nothing uses. -/
theorem out_peek {r : Rect S2x256x512} {hl : outM.view.LoadsAt r.toLoadRect} {f : (cc0_stg5_0 : Ref sig .tc).ty.Contents (Elt F)}
    {k : (r.shape.Idx → Elt F .f32) → Prog (TpuEff nD τ sig (Elt F) Λ₀ .tc) A} {Q : A → sProp 𝕄} :
    (staged c cc0_stg5_0 f : sProp 𝕄)
      ⊢ iprop((∀ v, staged c cc0_stg5_0 f -∗ WP (k v) Q) -∗ WP (.op (.load outM r.toLoadRect hl) k) Q) := by
  iintro H Hk
  iapply (wp_load_rect 𝒱₀ (c : Thread nD τ) none Set.univ (m := outM) (r := r) (S := Finset.univ) (f := f) (Finset.subset_univ _)) $$ H
  iintro H
  iapply Hk
  iexact H

/-- Storing one half of it. -/
theorem out_store (b : Fin 2) {r : Rect S2x256x512} (hr : r = xR b) {w : r.shape.Idx → Elt F .f32} {w' : Vec F S1x256x512 .f32}
    (hw : HEq w w') {Mk : Finset r.shape.Idx} (hMk : Mk = Finset.univ) {hx : (outM.access r).Stores Mk}
    {hm : Mk = Finset.univ ∨ ∀ a, r.stride a = 1} {f : (cc0_stg5_0 : Ref sig .tc).ty.Contents (Elt F)}
    {k : PUnit → Prog (TpuEff nD τ sig (Elt F) Λ₀ .tc) A} {Q : A → sProp 𝕄} :
    (staged c cc0_stg5_0 f : sProp 𝕄)
      ⊢ iprop((staged c cc0_stg5_0 ((outM.access (xR b)).write (Elt F) f w' Finset.univ) -∗ WP (k ⟨⟩) Q)
        -∗ WP (.op (.store outM r w Mk hx hm) k) Q) := by
  subst hr hMk
  obtain rfl := eq_of_heq hw
  exact wp_store 𝒱₀ (c : Thread nD τ) none Set.univ (m := outM) (r := xR b) (S := Finset.univ) (f := f) (Finset.subset_univ _)

end Loads

/-! ## The barrier -/

/-- Signals to the next two devices: each takes the landing halves that the device there will write. -/
theorem part1_run {Q : _ → sProp 𝕄} :
    iprop(records J X K ∗ owing c (O₀ c)
        ∗ (dutyTok ER (barCell (peer 0 c)) 0 (back 0) ∗ (any c (slot 0) 0 ∗ any c (slot 0) 1)
          ∗ reached ER (recvCell c 0 0) 0 ∗ reached ER (recvCell c 0 1) 0)
        ∗ (dutyTok ER (barCell (peer 1 c)) 0 (back 1) ∗ (any c (slot 1) 0 ∗ any c (slot 1) 1)
          ∗ reached ER (recvCell c 1 0) 0 ∗ reached ER (recvCell c 1 1) 0))
      ⊢ iprop((∀ v2, owing c (owedSends c + oweBar c 2) -∗ Q ⟨c, v2, SemArray.scalar barS, 1#32⟩)
        -∗ WP (k0_part1 (F := F) xM (Memref.isWhole_whole _) wqM (Memref.isWhole_whole _) kM (Memref.isWhole_whole _) vM (Memref.isWhole_whole _)
      woM (Memref.isWhole_whole _) outM (Memref.isWhole_whole _) bufM (Memref.isWhole_whole _) cc0_scratch1 cc0_scratch2) Q) := by
  rw [k0_part1_eq_skeleton]; unfold k0_part1_skel
  simp only [semSignalWord, Prog.lift, Prog.bind_op, Prog.bind_ret, Prog.pure_eq_ret, wp_deviceId]
  iintro ⟨#HI, HO, H0, H1⟩ Hk
  iapply (signal_step J X K c 0 (dev1 c) rfl (O := O₀ c) (O' := owedSends c + oweBar c 2 + oweBar c 1) rfl) $$ [HO H0]
  · isplitr; · iexact HI
    isplitl [HO]; · iexact HO
    iexact H0
  iintro HO
  iapply (signal_step J X K c 1 (dev2 c) rfl (O' := owedSends c + oweBar c 2) rfl) $$ [HO H1]
  · isplitr; · iexact HI
    isplitl [HO]; · iexact HO
    iexact H1
  iintro HO
  rw [wp_ret]
  imodintro
  iapply Hk $$ HO

/-- The signal to the third device, which pays the last of the barrier's debt. -/
theorem part2_run {v2 c1 : BitVec 32} {Q : _ → sProp 𝕄} :
    iprop(records J X K ∗ owing c (owedSends c + oweBar c 2)
        ∗ (dutyTok ER (barCell (peer 2 c)) 0 (back 2) ∗ (any c (slot 2) 0 ∗ any c (slot 2) 1)
          ∗ reached ER (recvCell c 2 0) 0 ∗ reached ER (recvCell c 2 1) 0))
      ⊢ iprop((owing c (owedSends c) -∗ Q ⟨iota .tc S256x256 32 [1] iota_S256x256_d1_w32, k0_pay1, 64#32, k0_pay2⟩)
        -∗ WP (k0_part2 (F := F) xM (Memref.isWhole_whole _) wqM (Memref.isWhole_whole _) kM (Memref.isWhole_whole _) vM (Memref.isWhole_whole _)
      woM (Memref.isWhole_whole _) outM (Memref.isWhole_whole _) bufM (Memref.isWhole_whole _) cc0_scratch1 cc0_scratch2
      c v2 (SemArray.scalar barS) c1) Q) := by
  rw [k0_part2_eq_skeleton]; unfold k0_part2_skel
  simp only [semSignalWord, Prog.lift, Prog.bind_op, Prog.bind_ret, Prog.pure_eq_ret]
  iintro ⟨#HI, HO, H2⟩ Hk
  iapply (signal_step J X K c 2 (dev3 c) rfl (O' := owedSends c) rfl) $$ [HO H2]
  · isplitr; · iexact HI
    isplitl [HO]; · iexact HO
    iexact H2
  iintro HO
  rw [wp_ret]
  imodintro
  iapply Hk $$ HO

/-! ## The first batch element's context -/

/-- The query weights and batch element 0's activations, keys and values are loaded. -/
theorem part4_run {v96 : IVec S256x256 1} {v112 : IVec S256x256 32} {v114 : BitVec 32} {v116 : IVec S256x256 32} {c0 : BitVec 32} {Q : _ → sProp 𝕄} :
    iprop(staged c cc0_stg0_0 B.x ∗ staged c cc0_stg1_0 B.wq ∗ staged c cc0_stg2_0 B.k ∗ staged c cc0_stg3_0 B.v)
      ⊢ iprop(((staged c cc0_stg0_0 B.x ∗ staged c cc0_stg1_0 B.wq ∗ staged c cc0_stg2_0 B.k ∗ staged c cc0_stg3_0 B.v)
            -∗ Q ⟨k0_pay7 v96 v112 v114 v116 c0, k0_pay8 B.wqb, k0_pay9 B.wqb (B.xb 0), k0_pay10 (B.kb 0), k0_pay11 (B.vb 0),
              k0_pay12 (B.vb 0), k0_pay13 v96 v112 v114 v116 c0 B.wqb (B.xb 0) (B.kb 0)⟩)
        -∗ WP (k0_part4 (F := F) xM (Memref.isWhole_whole _) wqM (Memref.isWhole_whole _) kM (Memref.isWhole_whole _) vM (Memref.isWhole_whole _)
      woM (Memref.isWhole_whole _) outM (Memref.isWhole_whole _) bufM (Memref.isWhole_whole _) cc0_scratch1 cc0_scratch2
      v96 v112 v114 v116 c0) Q) := by
  rw [k0_part4_eq_skeleton]; unfold k0_part4_skel
  simp only [Prog.lift, Prog.bind_op, Prog.bind_ret, Prog.pure_eq_ret]
  iintro ⟨Hx, Hwq, Hk, Hv⟩ Hc
  iapply (load_wq c B rfl HEq.rfl) $$ Hwq
  iintro Hwq
  iapply (load_x c B 0 rfl HEq.rfl) $$ Hx
  iintro Hx
  iapply (load_k c B 0 rfl HEq.rfl) $$ Hk
  iintro Hk
  iapply (load_v c B 0 rfl HEq.rfl) $$ Hv
  iintro Hv
  rw [wp_ret]
  imodintro
  iapply Hc
  isplitl [Hx]; · iexact Hx
  isplitl [Hwq]; · iexact Hwq
  isplitl [Hk]; · iexact Hk
  iexact Hv

/-- The context is stored to slot 0, and the barrier passed. -/
theorem part6_run {v2 : BitVec 32} {v130 : IVec S256x256 1} {v160 v180 v200 v201 v202 v203 : FVec F S256x64 .bf16}
    {cst : FVec F S256x256 .f32} {w : Vec F S1x256x256 .bf16} (hw : k0_pay21 v130 v160 v180 v200 v201 v202 v203 cst = w) {Q : _ → sProp 𝕄} :
    iprop(records J X K ∗ levAts L lv ∗ owing c (owedSends c) ∗ cred (tallyAt (barCell c) () 3) ∗ atPos ER (barCell c) 0 ∅ 0 ∗ any c 0 0)
      ⊢ iprop((∀ v, (owing c (owedSends c) ∗ holds J c 0 0 fullShare w ∗ semVal (barCell c) 0 ∗ barPay c 0 ∗ barPay c 1 ∗ barPay c 2)
            -∗ Q ⟨k0_pay20 v130 v160 v180 v200 v201 v202 v203 cst, v, 1#32⟩)
        -∗ WP (k0_part6 (F := F) xM (Memref.isWhole_whole _) wqM (Memref.isWhole_whole _) kM (Memref.isWhole_whole _) vM (Memref.isWhole_whole _)
      woM (Memref.isWhole_whole _) outM (Memref.isWhole_whole _) bufM (Memref.isWhole_whole _) cc0_scratch1 cc0_scratch2
      v2 (SemArray.scalar barS) v130 v160 v180 v200 v201 v202 v203 cst) Q) := by
  rw [k0_part6_eq_skeleton]; unfold k0_part6_skel
  simp only [semWaitWord, Prog.lift, Prog.bind_op, Prog.bind_ret, Prog.pure_eq_ret]
  iintro ⟨#HI, #Hlev, HO, Hc, Hat, Hs⟩ Hk
  iapply (half_peek c 0 0 rfl) $$ Hs
  iintro %_ Hs
  iapply (half_store J c 0 0 rfl (heq_of_eq hw) rfl) $$ Hs
  iintro Hs
  iapply (barrier_step J X K c rfl) $$ [HO Hc Hat]
  · isplitr; · iexact HI
    isplitr; · iexact Hlev
    isplitl [HO]; · iexact HO
    isplitl [Hc]; · iexact Hc
    iexact Hat
  iintro ⟨HO, Hp⟩
  rw [wp_ret]
  imodintro
  iapply Hk
  isplitl [HO]; · iexact HO
  isplitl [Hs]; · iexact Hs
  iexact Hp

/-! ## The copies -/

/-- What the copy of half `h` to `peer j c` takes, but for what is owed. -/
abbrev sendRes (j : Fin 3) (h : Fin 2) : sProp 𝕄 :=
  iprop(holds J c 0 h (third j) (X c h) ∗ any (peer j c) (slot (back j)) h
    ∗ (dutyTok ER (sendCell c j h) 0 0 ∗ reached ER (sendCell c j h) 0)
    ∗ dutyTok ER (recvCell (peer j c) (back j) h) 0 0 ∗ reached ER (recvCell (peer j c) (back j) h) 0)

/-- Batch element 0's context is copied to the device two places on and to the next one. -/
theorem part7_run {v2 v236 c1 : BitVec 32} {Q : _ → sProp 𝕄} :
    iprop(records J X K ∗ owing c (owedSends c) ∗ sendRes J X c 1 0 ∗ sendRes J X c 0 0)
      ⊢ iprop(((owing c ((((0 + oweSend c 2 1) + oweSend c 0 1) + oweSend c 1 1) + oweSend c 2 0)
            ∗ cred (tallyAt (sendCell c 1 0) () N) ∗ cred (tallyAt (sendCell c 0 0) () N)) -∗ Q 1#32)
        -∗ WP (k0_part7 (F := F) xM (Memref.isWhole_whole _) wqM (Memref.isWhole_whole _) kM (Memref.isWhole_whole _) vM (Memref.isWhole_whole _)
      woM (Memref.isWhole_whole _) outM (Memref.isWhole_whole _) bufM (Memref.isWhole_whole _) cc0_scratch1 cc0_scratch2
      c v2 v236 c1) Q) := by
  rw [k0_part7_eq_skeleton]; unfold k0_part7_skel
  simp only [Prog.lift, Prog.bind_op, Prog.bind_ret, Prog.pure_eq_ret]
  iintro ⟨#HI, HO, H1, H0⟩ Hk
  iapply (send_step J X K c 1 0 rfl rfl (dev4 c) rfl rfl
    (O' := (((0 + oweSend c 2 1) + oweSend c 0 1) + oweSend c 1 1) + oweSend c 2 0 + oweSend c 0 0) rfl) $$ [HO H1]
  · isplitr; · iexact HI
    isplitl [HO]; · iexact HO
    iexact H1
  iintro ⟨HO, C1⟩
  iapply (send_step J X K c 0 0 rfl rfl (dev5 c) rfl rfl
    (O' := (((0 + oweSend c 2 1) + oweSend c 0 1) + oweSend c 1 1) + oweSend c 2 0) rfl) $$ [HO H0]
  · isplitr; · iexact HI
    isplitl [HO]; · iexact HO
    iexact H0
  iintro ⟨HO, C0⟩
  rw [wp_ret]
  imodintro
  iapply Hk
  isplitl [HO]; · iexact HO
  isplitl [C1]; · iexact C1
  iexact C0

/-- It is copied to the device three places on, and batch element 1's activations, keys and values are loaded. -/
theorem part8_run {v2 c1 : BitVec 32} {v132 : FVec F S512x256 .bf16} {Q : _ → sProp 𝕄} :
    iprop(records J X K ∗ owing c ((((0 + oweSend c 2 1) + oweSend c 0 1) + oweSend c 1 1) + oweSend c 2 0) ∗ sendRes J X c 2 0
        ∗ staged c cc0_stg0_0 B.x ∗ staged c cc0_stg2_0 B.k ∗ staged c cc0_stg3_0 B.v)
      ⊢ iprop(((owing c (((0 + oweSend c 2 1) + oweSend c 0 1) + oweSend c 1 1) ∗ cred (tallyAt (sendCell c 2 0) () N)
            ∗ staged c cc0_stg0_0 B.x ∗ staged c cc0_stg2_0 B.k ∗ staged c cc0_stg3_0 B.v)
            -∗ Q ⟨k0_pay22 v132 (B.xb 1), k0_pay23 (B.kb 1), k0_pay24 (B.vb 1)⟩)
        -∗ WP (k0_part8 (F := F) xM (Memref.isWhole_whole _) wqM (Memref.isWhole_whole _) kM (Memref.isWhole_whole _) vM (Memref.isWhole_whole _)
      woM (Memref.isWhole_whole _) outM (Memref.isWhole_whole _) bufM (Memref.isWhole_whole _) cc0_scratch1 cc0_scratch2
      c v2 v132 c1) Q) := by
  rw [k0_part8_eq_skeleton]; unfold k0_part8_skel
  simp only [Prog.lift, Prog.bind_op, Prog.bind_ret, Prog.pure_eq_ret]
  iintro ⟨#HI, HO, H2, Hx, Hk, Hv⟩ Hc
  iapply (send_step J X K c 2 0 rfl rfl (dev6 c) rfl rfl
    (O' := ((0 + oweSend c 2 1) + oweSend c 0 1) + oweSend c 1 1) rfl) $$ [HO H2]
  · isplitr; · iexact HI
    isplitl [HO]; · iexact HO
    iexact H2
  iintro ⟨HO, C2⟩
  iapply (load_x c B 1 rfl HEq.rfl) $$ Hx
  iintro Hx
  iapply (load_k c B 1 rfl HEq.rfl) $$ Hk
  iintro Hk
  iapply (load_v c B 1 rfl HEq.rfl) $$ Hv
  iintro Hv
  rw [wp_ret]
  imodintro
  iapply Hc
  isplitl [HO]; · iexact HO
  isplitl [C2]; · iexact C2
  isplitl [Hx]; · iexact Hx
  isplitl [Hk]; · iexact Hk
  iexact Hv

/-! ## The second batch element's context -/

/-- Batch element 1's context is stored in its half of slot 0. -/
theorem part10_run {v2 : BitVec 32} {v130 : IVec S256x256 1} {v294 v296 v298 : FVec F S256x256 .bf16} {v318 v338 v341 : FVec F S256x64 .bf16}
    {v344 : FVec F S256x256 .f32} {w : Vec F S1x256x256 .bf16} (hw : k0_pay30 v130 v294 v296 v298 v318 v338 v341 v344 = w) {Q : _ → sProp 𝕄} :
    (any c 0 1 : sProp 𝕄)
      ⊢ iprop((∀ v v', holds J c 0 1 fullShare w -∗ Q ⟨k0_pay29 v130 v294 v296 v298 v318 v338 v341 v344, v, 4#32, v', 1#32⟩)
        -∗ WP (k0_part10 (F := F) xM (Memref.isWhole_whole _) wqM (Memref.isWhole_whole _) kM (Memref.isWhole_whole _) vM (Memref.isWhole_whole _)
      woM (Memref.isWhole_whole _) outM (Memref.isWhole_whole _) bufM (Memref.isWhole_whole _) cc0_scratch1 cc0_scratch2
      v2 v130 v294 v296 v298 v318 v338 v341 v344) Q) := by
  rw [k0_part10_eq_skeleton]; unfold k0_part10_skel
  simp only [Prog.lift, Prog.bind_op, Prog.bind_ret, Prog.pure_eq_ret]
  iintro Hs Hk
  iapply (half_peek c 0 1 rfl) $$ Hs
  iintro %_ Hs
  iapply (half_store J c 0 1 rfl (heq_of_eq hw) rfl) $$ Hs
  iintro Hs
  rw [wp_ret]
  imodintro
  iapply Hk
  iexact Hs

/-- It is copied to the device two places on, -/
theorem part11_run {v2 v384 c4 c1 : BitVec 32} {v385 : BitVec 1} {Q : _ → sProp 𝕄} :
    iprop(records J X K ∗ owing c (((0 + oweSend c 2 1) + oweSend c 0 1) + oweSend c 1 1) ∗ sendRes J X c 1 1)
      ⊢ iprop((∀ v, (owing c ((0 + oweSend c 2 1) + oweSend c 0 1) ∗ cred (tallyAt (sendCell c 1 1) () N)) -∗ Q v)
        -∗ WP (k0_part11 (F := F) xM (Memref.isWhole_whole _) wqM (Memref.isWhole_whole _) kM (Memref.isWhole_whole _) vM (Memref.isWhole_whole _)
      woM (Memref.isWhole_whole _) outM (Memref.isWhole_whole _) bufM (Memref.isWhole_whole _) cc0_scratch1 cc0_scratch2
      c v2 v384 c4 v385 c1) Q) := by
  rw [k0_part11_eq_skeleton]; unfold k0_part11_skel
  simp only [Prog.lift, Prog.bind_op, Prog.bind_ret, Prog.pure_eq_ret]
  iintro ⟨#HI, HO, H1⟩ Hk
  iapply (send_step J X K c 1 1 rfl rfl (dev7 c) rfl rfl (O' := (0 + oweSend c 2 1) + oweSend c 0 1) rfl) $$ [HO H1]
  · isplitr; · iexact HI
    isplitl [HO]; · iexact HO
    iexact H1
  iintro H
  rw [wp_ret]
  imodintro
  iapply Hk
  iexact H

/-- to the next one, -/
theorem part12_run {v2 v416 : BitVec 32} {Q : _ → sProp 𝕄} :
    iprop(records J X K ∗ owing c ((0 + oweSend c 2 1) + oweSend c 0 1) ∗ sendRes J X c 0 1)
      ⊢ iprop(((owing c (0 + oweSend c 2 1) ∗ cred (tallyAt (sendCell c 0 1) () N)) -∗ Q ⟨⟩)
        -∗ WP (k0_part12 (F := F) xM (Memref.isWhole_whole _) wqM (Memref.isWhole_whole _) kM (Memref.isWhole_whole _) vM (Memref.isWhole_whole _)
      woM (Memref.isWhole_whole _) outM (Memref.isWhole_whole _) bufM (Memref.isWhole_whole _) cc0_scratch1 cc0_scratch2
      c v2 v416) Q) := by
  rw [k0_part12_eq_skeleton]; unfold k0_part12_skel
  simp only [Prog.lift, Prog.bind_op, Prog.bind_ret, Prog.pure_eq_ret]
  iintro ⟨#HI, HO, H0⟩ Hk
  iapply (send_step J X K c 0 1 rfl rfl (dev8 c) rfl rfl (O' := 0 + oweSend c 2 1) rfl) $$ [HO H0]
  · isplitr; · iexact HI
    isplitl [HO]; · iexact HO
    iexact H0
  iintro H
  rw [wp_ret]
  imodintro
  iapply Hk
  iexact H

/-- and to the device three places on; then the output weights' rows of the next two devices are loaded. -/
theorem part13_run {v2 : BitVec 32} {Q : _ → sProp 𝕄} :
    iprop(records J X K ∗ owing c (0 + oweSend c 2 1) ∗ sendRes J X c 2 1 ∗ staged c cc0_stg4_0 B.wo)
      ⊢ iprop((∀ v v', (owing c 0 ∗ cred (tallyAt (sendCell c 2 1) () N) ∗ staged c cc0_stg4_0 B.wo)
            -∗ Q ⟨k0_pay31 (B.wob c 0), k0_pay32 (B.wob c 1), v, 4#32, v'⟩)
        -∗ WP (k0_part13 (F := F) xM (Memref.isWhole_whole _) wqM (Memref.isWhole_whole _) kM (Memref.isWhole_whole _) vM (Memref.isWhole_whole _)
      woM (Memref.isWhole_whole _) outM (Memref.isWhole_whole _) bufM (Memref.isWhole_whole _) cc0_scratch1 cc0_scratch2
      c v2) Q) := by
  rw [k0_part13_eq_skeleton]; unfold k0_part13_skel
  simp only [Prog.lift, Prog.bind_op, Prog.bind_ret, Prog.pure_eq_ret]
  iintro ⟨#HI, HO, H2, Hw⟩ Hk
  iapply (send_step J X K c 2 1 rfl rfl (dev9 c) rfl rfl (O' := 0) rfl) $$ [HO H2]
  · isplitr; · iexact HI
    isplitl [HO]; · iexact HO
    iexact H2
  iintro ⟨HO, C2⟩
  iapply (load_wo c B 0 rfl HEq.rfl) $$ Hw
  iintro Hw
  iapply (load_wo c B 1 rfl HEq.rfl) $$ Hw
  iintro Hw
  rw [wp_ret]
  imodintro
  iapply Hk
  isplitl [HO]; · iexact HO
  isplitl [C2]; · iexact C2
  iexact Hw

/-! ## The result -/

/-- The rows of the device three places on and of the device itself are loaded. -/
theorem part14_run {v2 v482 c4 : BitVec 32} {v483 : BitVec 1} {v221 v379 : FVec F S256x256 .bf16} {Q : _ → sProp 𝕄} :
    (staged c cc0_stg4_0 B.wo : sProp 𝕄)
      ⊢ iprop((staged c cc0_stg4_0 B.wo -∗ Q ⟨k0_pay33 (B.wob c 2), k0_pay35 v221 (B.wob c 3), k0_pay36 v379 (B.wob c 3)⟩)
        -∗ WP (k0_part14 (F := F) xM (Memref.isWhole_whole _) wqM (Memref.isWhole_whole _) kM (Memref.isWhole_whole _) vM (Memref.isWhole_whole _)
      woM (Memref.isWhole_whole _) outM (Memref.isWhole_whole _) bufM (Memref.isWhole_whole _) cc0_scratch1 cc0_scratch2
      c v2 v221 v379 v482 c4 v483) Q) := by
  rw [k0_part14_eq_skeleton]; unfold k0_part14_skel
  simp only [Prog.lift, Prog.bind_op, Prog.bind_ret, Prog.pure_eq_ret]
  iintro Hw Hk
  iapply (load_wo c B 2 rfl HEq.rfl) $$ Hw
  iintro Hw
  iapply (load_wo c B 3 rfl HEq.rfl) $$ Hw
  iintro Hw
  rw [wp_ret]
  imodintro
  iapply Hk
  iexact Hw

/-- What waiting for the block of `peer i c` for half `h` takes, -/
abbrev recvRes (i : Fin 3) (h : Fin 2) : sProp 𝕄 :=
  iprop(cred (tallyAt (recvCell c i h) () N) ∗ atPos ER (recvCell c i h) 0 ∅ 0)
/-- and what it leaves. -/
abbrev recvDone (i : Fin 3) (h : Fin 2) : sProp 𝕄 :=
  iprop(semVal (recvCell c i h) 0 ∗ holds J c (slot i) h fullShare (X (peer i c) h))
/-- The same for the read-out of half `h` towards `peer j c`. -/
abbrev readRes (j : Fin 3) (h : Fin 2) : sProp 𝕄 :=
  iprop(cred (tallyAt (sendCell c j h) () N) ∗ atPos ER (sendCell c j h) 0 ∅ 0)
abbrev readDone (j : Fin 3) (h : Fin 2) : sProp 𝕄 :=
  iprop(semVal (sendCell c j h) 0 ∗ holds J c 0 h (third j) (X c h))

/-- Batch element 0's contexts of the next device and of the one three places on land and are read. -/
theorem part15_run {v2 : BitVec 32} {v464 v496 : FVec F S256x512 .bf16} {v513 : FVec F S256x512 .f32} {Q : _ → sProp 𝕄} :
    iprop(records J X K ∗ owing c 0 ∗ recvRes c 0 0 ∗ recvRes c 2 0)
      ⊢ iprop(((owing c 0 ∗ recvDone J X c 0 0 ∗ recvDone J X c 2 0)
            -∗ Q (k0_pay37 v464 v496 v513 (X (peer 0 c) 0) (X (peer 2 c) 0)))
        -∗ WP (k0_part15 (F := F) xM (Memref.isWhole_whole _) wqM (Memref.isWhole_whole _) kM (Memref.isWhole_whole _) vM (Memref.isWhole_whole _)
      woM (Memref.isWhole_whole _) outM (Memref.isWhole_whole _) bufM (Memref.isWhole_whole _) cc0_scratch1 cc0_scratch2
      v2 v464 v496 v513) Q) := by
  rw [k0_part15_eq_skeleton]; unfold k0_part15_skel
  simp only [Prog.lift, Prog.bind_op, Prog.bind_ret, Prog.pure_eq_ret]
  iintro ⟨#HI, HO, ⟨C0, A0⟩, C2, A2⟩ Hk
  iapply (recv_step J X K c 0 0 rfl rfl) $$ [HO C0 A0]
  · isplitr; · iexact HI
    isplitl [HO]; · iexact HO
    isplitl [C0]; · iexact C0
    iexact A0
  iintro ⟨HO, S0, H0⟩
  iapply (half_load J c (slot 0) 0 rfl HEq.rfl) $$ H0
  iintro H0
  iapply (recv_step J X K c 2 0 rfl rfl) $$ [HO C2 A2]
  · isplitr; · iexact HI
    isplitl [HO]; · iexact HO
    isplitl [C2]; · iexact C2
    iexact A2
  iintro ⟨HO, S2, H2⟩
  iapply (half_load J c (slot 2) 0 rfl HEq.rfl) $$ H2
  iintro H2
  rw [wp_ret]
  imodintro
  iapply Hk
  isplitl [HO]; · iexact HO
  isplitl [S0 H0]
  · isplitl [S0]; · iexact S0
    iexact H0
  isplitl [S2]; · iexact S2
  iexact H2

/-- So do batch element 0's of the device two places on and batch element 1's of the next device. -/
theorem part16_run {v2 : BitVec 32} {v464 v480 : FVec F S256x512 .bf16} {v514 v538 : FVec F S256x512 .f32} {Q : _ → sProp 𝕄} :
    iprop(records J X K ∗ owing c 0 ∗ recvRes c 1 0 ∗ recvRes c 0 1)
      ⊢ iprop(((owing c 0 ∗ recvDone J X c 1 0 ∗ recvDone J X c 0 1)
            -∗ Q ⟨k0_pay38 v480 v538 (X (peer 1 c) 0), k0_pay39 v464 v514 (X (peer 0 c) 1)⟩)
        -∗ WP (k0_part16 (F := F) xM (Memref.isWhole_whole _) wqM (Memref.isWhole_whole _) kM (Memref.isWhole_whole _) vM (Memref.isWhole_whole _)
      woM (Memref.isWhole_whole _) outM (Memref.isWhole_whole _) bufM (Memref.isWhole_whole _) cc0_scratch1 cc0_scratch2
      v2 v464 v480 v514 v538) Q) := by
  rw [k0_part16_eq_skeleton]; unfold k0_part16_skel
  simp only [Prog.lift, Prog.bind_op, Prog.bind_ret, Prog.pure_eq_ret]
  iintro ⟨#HI, HO, ⟨C0, A0⟩, C2, A2⟩ Hk
  iapply (recv_step J X K c 1 0 rfl rfl) $$ [HO C0 A0]
  · isplitr; · iexact HI
    isplitl [HO]; · iexact HO
    isplitl [C0]; · iexact C0
    iexact A0
  iintro ⟨HO, S0, H0⟩
  iapply (half_load J c (slot 1) 0 rfl HEq.rfl) $$ H0
  iintro H0
  iapply (recv_step J X K c 0 1 rfl rfl) $$ [HO C2 A2]
  · isplitr; · iexact HI
    isplitl [HO]; · iexact HO
    isplitl [C2]; · iexact C2
    iexact A2
  iintro ⟨HO, S2, H2⟩
  iapply (half_load J c (slot 0) 1 rfl HEq.rfl) $$ H2
  iintro H2
  rw [wp_ret]
  imodintro
  iapply Hk
  isplitl [HO]; · iexact HO
  isplitl [S0 H0]
  · isplitl [S0]; · iexact S0
    iexact H0
  isplitl [S2]; · iexact S2
  iexact H2

/-- The last two contexts land and are read, and both halves of the result are stored. -/
theorem part17_run {v2 : BitVec 32} {v480 v496 : FVec F S256x512 .bf16} {v550 v562 : FVec F S256x512 .f32}
    {w₀ w₁ : FVec F S1x256x512 .f32} (h₀ : k0_pay40 v550 = w₀) (h₁ : k0_pay41 v480 v496 v562 (X (peer 2 c) 1) (X (peer 1 c) 1) = w₁)
    {Q : _ → sProp 𝕄} :
    iprop(records J X K ∗ owing c 0 ∗ recvRes c 2 1 ∗ recvRes c 1 1 ∗ ∃ f, staged c cc0_stg5_0 f)
      ⊢ iprop(((owing c 0 ∗ recvDone J X c 2 1 ∗ recvDone J X c 1 1
            ∗ ∃ f, staged c cc0_stg5_0 ((outM.access (xR 1)).write (Elt F) ((outM.access (xR 0)).write (Elt F) f w₀ Finset.univ) w₁ Finset.univ))
            -∗ Q ⟨⟩)
        -∗ WP (k0_part17 (F := F) xM (Memref.isWhole_whole _) wqM (Memref.isWhole_whole _) kM (Memref.isWhole_whole _) vM (Memref.isWhole_whole _)
      woM (Memref.isWhole_whole _) outM (Memref.isWhole_whole _) bufM (Memref.isWhole_whole _) cc0_scratch1 cc0_scratch2
      v2 v480 v496 v550 v562) Q) := by
  subst h₀ h₁
  rw [k0_part17_eq_skeleton]; unfold k0_part17_skel
  simp only [Prog.lift, Prog.bind_op, Prog.bind_ret, Prog.pure_eq_ret]
  iintro ⟨#HI, HO, ⟨C0, A0⟩, ⟨C2, A2⟩, ⟨%f, Ho⟩⟩ Hk
  iapply (recv_step J X K c 2 1 rfl rfl) $$ [HO C0 A0]
  · isplitr; · iexact HI
    isplitl [HO]; · iexact HO
    isplitl [C0]; · iexact C0
    iexact A0
  iintro ⟨HO, S0, H0⟩
  iapply (half_load J c (slot 2) 1 rfl HEq.rfl) $$ H0
  iintro H0
  iapply (recv_step J X K c 1 1 rfl rfl) $$ [HO C2 A2]
  · isplitr; · iexact HI
    isplitl [HO]; · iexact HO
    isplitl [C2]; · iexact C2
    iexact A2
  iintro ⟨HO, S2, H2⟩
  iapply (half_load J c (slot 1) 1 rfl HEq.rfl) $$ H2
  iintro H2
  iapply (out_peek c) $$ Ho
  iintro %_ Ho
  iapply (out_store c 0 rfl HEq.rfl rfl) $$ Ho
  iintro Ho
  iapply (out_peek c) $$ Ho
  iintro %_ Ho
  iapply (out_store c 1 rfl HEq.rfl rfl) $$ Ho
  iintro Ho
  rw [wp_ret]
  imodintro
  iapply Hk
  isplitl [HO]; · iexact HO
  isplitl [S0 H0]
  · isplitl [S0]; · iexact S0
    iexact H0
  isplitl [S2 H2]
  · isplitl [S2]; · iexact S2
    iexact H2
  iexists f
  iexact Ho

/-- The first three copies have been read out, so their share of slot 0 is back. -/
theorem part18_run {Q : _ → sProp 𝕄} :
    iprop(records J X K ∗ owing c 0 ∗ readRes c 1 0 ∗ readRes c 0 0 ∗ readRes c 2 0)
      ⊢ iprop(((owing c 0 ∗ readDone J X c 1 0 ∗ readDone J X c 0 0 ∗ readDone J X c 2 0) -∗ Q ⟨⟩)
        -∗ WP (k0_part18 (F := F) xM (Memref.isWhole_whole _) wqM (Memref.isWhole_whole _) kM (Memref.isWhole_whole _) vM (Memref.isWhole_whole _)
      woM (Memref.isWhole_whole _) outM (Memref.isWhole_whole _) bufM (Memref.isWhole_whole _) cc0_scratch1 cc0_scratch2) Q) := by
  rw [k0_part18_eq_skeleton]; unfold k0_part18_skel
  simp only [Prog.lift, Prog.bind_op, Prog.bind_ret, Prog.pure_eq_ret]
  iintro ⟨#HI, HO, ⟨C1, A1⟩, ⟨C0, A0⟩, C2, A2⟩ Hk
  iapply (readout_step J X K c 1 0 rfl rfl) $$ [HO C1 A1]
  · isplitr; · iexact HI
    isplitl [HO]; · iexact HO
    isplitl [C1]; · iexact C1
    iexact A1
  iintro ⟨HO, H1⟩
  iapply (readout_step J X K c 0 0 rfl rfl) $$ [HO C0 A0]
  · isplitr; · iexact HI
    isplitl [HO]; · iexact HO
    isplitl [C0]; · iexact C0
    iexact A0
  iintro ⟨HO, H0⟩
  iapply (readout_step J X K c 2 0 rfl rfl) $$ [HO C2 A2]
  · isplitr; · iexact HI
    isplitl [HO]; · iexact HO
    isplitl [C2]; · iexact C2
    iexact A2
  iintro ⟨HO, H2⟩
  rw [wp_ret]
  imodintro
  iapply Hk
  isplitl [HO]; · iexact HO
  isplitl [H1]; · iexact H1
  isplitl [H0]; · iexact H0
  iexact H2

end Cert.Exchange

end
-- ==== Proof.Body.lean ====
/-
  The body of the kernel on device `c`, run from its protocol resources, its exchange buffer and its staged blocks: it leaves
  the result in the staging buffer of the output, every semaphore it used at zero and nothing owed.
-/
module

public import proofs.«01_k».proof.Proof.Parts
public import proofs.«01_k».proof.Proof.Slots

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : (cc0_scratch0 : Ref sig .tc).ty.Contents (Elt F)) (X : Dev nD → Fin 2 → Vec F S1x256x256 .bf16) (K : GSem nD τ sig → ℕ)
  (c : Dev nD) (B : Blocks F)

local notation "WP" => wp frame (wpE (defs₀ (F := F)) 𝒱₀ (c : Thread nD τ) none) Set.univ

/-! ## What a device starts from and ends with -/

/-- One resource for each copy, in the order the copies are issued. -/
def six (f : Fin 3 → Fin 2 → sProp 𝕄) : sProp 𝕄 := iprop(f 1 0 ∗ f 0 0 ∗ f 2 0 ∗ f 1 1 ∗ f 0 1 ∗ f 2 1)

/-- The tokens for signalling `peer j c`. -/
abbrev tellRes (j : Fin 3) : sProp 𝕄 := dutyTok ER (barCell (peer j c)) 0 (back j)

/-- The tokens of the copy of half `h` to `peer j c`, and the position of the cell that counts its read-out. -/
abbrev copyRes (j : Fin 3) (h : Fin 2) : sProp 𝕄 :=
  iprop((dutyTok ER (sendCell c j h) 0 0 ∗ reached ER (sendCell c j h) 0) ∗ dutyTok ER (recvCell (peer j c) (back j) h) 0 0
    ∗ atPos ER (sendCell c j h) 0 ∅ 0)

/-- What the wait for the block of `peer i c` takes, with the cell's round reached. -/
abbrev landRes (i : Fin 3) (h : Fin 2) : sProp 𝕄 := iprop(reached ER (recvCell c i h) 0 ∗ recvRes c i h)

/-- The exchange buffer outright. -/
abbrev scratchAny : sProp 𝕄 := iprop(∃ f, staged (F := F) c cc0_scratch0 f)

/-- The staged blocks. -/
def inputs : sProp 𝕄 :=
  iprop(staged c cc0_stg0_0 B.x ∗ staged c cc0_stg1_0 B.wq ∗ staged c cc0_stg2_0 B.k ∗ staged c cc0_stg3_0 B.v ∗ staged c cc0_stg4_0 B.wo)

/-- The protocol resources at the start: -/
def startRes : sProp 𝕄 :=
  iprop((tellRes c 0 ∗ tellRes c 1 ∗ tellRes c 2) ∗ (cred (tallyAt (barCell c) () 3) ∗ atPos ER (barCell c) 0 ∅ 0)
    ∗ six (copyRes (F := F) c) ∗ six (landRes (F := F) c))

/-- and the counters at the end. -/
def endRes : sProp 𝕄 :=
  iprop(semVal (barCell c) 0 ∗ six (F := F) (fun j h => semVal (sendCell c j h) 0) ∗ six (F := F) (fun i h => semVal (recvCell c i h) 0))

/-! ## The body -/

/-- The result's buffer after the two stores. -/
theorem out_stored (f : (cc0_stg5_0 : Ref sig .tc).ty.Contents (Elt F)) :
    (staged c cc0_stg5_0 ((outM.access (xR 1)).write (Elt F) ((outM.access (xR 0)).write (Elt F) f (B.out0 c X) Finset.univ) (B.out1 c X)
      Finset.univ) : sProp 𝕄) ⊢ staged c cc0_stg5_0 (B.out c X) :=
  Entails.of_eq (congrArg (staged c cc0_stg5_0) (B.outAfter_eq c X f))

set_option maxHeartbeats 4000000 in
/-- The body but for its last wait. -/
theorem part19_run (h₀ : X c 0 = B.sent0) (h₁ : X c 1 = B.sent1) {Q : PUnit → sProp 𝕄} :
    iprop(records J X K ∗ levAts L lv ∗ owing c (O₀ c) ∗ startRes c ∗ scratchAny c ∗ inputs c B ∗ ∃ f, staged c cc0_stg5_0 f)
      ⊢ iprop(((owing c 0 ∗ semVal (barCell c) 0
            ∗ (readDone J X c 1 0 ∗ readDone J X c 0 0 ∗ readDone J X c 2 0 ∗ readDone J X c 1 1 ∗ readDone J X c 0 1 ∗ readRes c 2 1)
            ∗ six (recvDone J X c) ∗ inputs c B ∗ staged c cc0_stg5_0 (B.out c X)) -∗ Q ⟨⟩)
        -∗ WP (k0_part19 (F := F) xM (Memref.isWhole_whole _) wqM (Memref.isWhole_whole _) kM (Memref.isWhole_whole _) vM (Memref.isWhole_whole _)
      woM (Memref.isWhole_whole _) outM (Memref.isWhole_whole _) bufM (Memref.isWhole_whole _) cc0_scratch1 cc0_scratch2) Q) := by
  rw [k0_part19_eq_skeleton]; unfold k0_part19_skel startRes six inputs
  iintro ⟨#HI, #Hlev, HO, ⟨⟨T0, T1, T2⟩, ⟨Cb, Ab⟩, ⟨⟨D10, E10, P10⟩, ⟨D00, E00, P00⟩, ⟨D20, E20, P20⟩, ⟨D11, E11, P11⟩, ⟨D01, E01, P01⟩, D21, E21, P21⟩,
    ⟨#R10, L10⟩, ⟨#R00, L00⟩, ⟨#R20, L20⟩, ⟨#R11, L11⟩, ⟨#R01, L01⟩, #R21, L21⟩, Hs, ⟨Hx, Hwq, Hk, Hv, Hwo⟩, Ho⟩ Hc
  ihave Hs := (buffer_split c) $$ Hs
  icases Hs with ⟨S00, S01, S10, S11, S20, S21, S30, S31⟩
  rw [wp_bind]
  iapply (part1_run J X K c) $$ [HO T0 T1 S10 S11 S20 S21]
  · isplitr; · iexact HI
    isplitl [HO]; · iexact HO
    isplitl [T0 S10 S11]
    · isplitl [T0]; · iexact T0
      isplitl [S10 S11]
      · isplitl [S10]; · iexact S10
        iexact S11
      isplitr; · iexact R00
      iexact R01
    isplitl [T1]; · iexact T1
    isplitl [S20 S21]
    · isplitl [S20]; · iexact S20
      iexact S21
    isplitr; · iexact R10
    iexact R11
  iintro %v2 HO
  dsimp only
  rw [wp_bind]
  iapply (part2_run J X K c) $$ [HO T2 S30 S31]
  · isplitr; · iexact HI
    isplitl [HO]; · iexact HO
    isplitl [T2]; · iexact T2
    isplitl [S30 S31]
    · isplitl [S30]; · iexact S30
      iexact S31
    isplitr; · iexact R20
    iexact R21
  iintro HO
  dsimp only
  rw [wp_bind, k0_part3_eq_skeleton]
  unfold k0_part3_skel
  rw [Prog.pure_eq_ret, wp_ret]
  imodintro
  dsimp only
  rw [wp_bind]
  iapply (part4_run c B) $$ [Hx Hwq Hk Hv]
  · isplitl [Hx]; · iexact Hx
    isplitl [Hwq]; · iexact Hwq
    isplitl [Hk]; · iexact Hk
    iexact Hv
  iintro ⟨Hx, Hwq, Hk, Hv⟩
  dsimp only
  rw [wp_bind, k0_part5_eq_skeleton]
  unfold k0_part5_skel
  rw [Prog.pure_eq_ret, wp_ret]
  imodintro
  dsimp only
  rw [wp_bind]
  iapply (part6_run J X K c (w := X c 0) h₀.symm) $$ [HO Cb Ab S00]
  · isplitr; · iexact HI
    isplitr; · iexact Hlev
    isplitl [HO]; · iexact HO
    isplitl [Cb]; · iexact Cb
    isplitl [Ab]; · iexact Ab
    iexact S00
  unfold barPay
  iintro %_ ⟨HO, W0, Bv, ⟨⟨A00, A01⟩, #Q00, #Q01⟩, ⟨⟨A10, A11⟩, #Q10, #Q11⟩, ⟨A20, A21⟩, #Q20, #Q21⟩
  ihave W0 := ((holds_thirds J c 0 0 (X c 0)).1) $$ W0
  icases W0 with ⟨W00, W10, W20⟩
  dsimp only
  rw [wp_bind]
  iapply (part7_run J X K c) $$ [HO W10 A10 D10 E10 W00 A00 D00 E00]
  · isplitr; · iexact HI
    isplitl [HO]; · iexact HO
    isplitl [W10 A10 D10 E10]
    · isplitl [W10]; · iexact W10
      isplitl [A10]; · iexact A10
      isplitl [D10]; · iexact D10
      isplitl [E10]; · iexact E10
      iexact Q10
    isplitl [W00]; · iexact W00
    isplitl [A00]; · iexact A00
    isplitl [D00]; · iexact D00
    isplitl [E00]; · iexact E00
    iexact Q00
  iintro ⟨HO, C10, C00⟩
  rw [wp_bind]
  iapply (part8_run J X K c B) $$ [HO W20 A20 D20 E20 Hx Hk Hv]
  · isplitr; · iexact HI
    isplitl [HO]; · iexact HO
    isplitl [W20 A20 D20 E20]
    · isplitl [W20]; · iexact W20
      isplitl [A20]; · iexact A20
      isplitl [D20]; · iexact D20
      isplitl [E20]; · iexact E20
      iexact Q20
    isplitl [Hx]; · iexact Hx
    isplitl [Hk]; · iexact Hk
    iexact Hv
  iintro ⟨HO, C20, Hx, Hk, Hv⟩
  dsimp only
  rw [wp_bind, k0_part9_eq_skeleton]
  unfold k0_part9_skel
  rw [Prog.pure_eq_ret, wp_ret]
  imodintro
  dsimp only
  rw [wp_bind]
  iapply (part10_run J c (w := X c 1) h₁.symm) $$ S01
  iintro %_ %_ W1
  ihave W1 := ((holds_thirds J c 0 1 (X c 1)).1) $$ W1
  icases W1 with ⟨W01, W11, W21⟩
  dsimp only
  rw [wp_bind]
  iapply (part11_run J X K c) $$ [HO W11 A11 D11 E11]
  · isplitr; · iexact HI
    isplitl [HO]; · iexact HO
    isplitl [W11]; · iexact W11
    isplitl [A11]; · iexact A11
    isplitl [D11]; · iexact D11
    isplitl [E11]; · iexact E11
    iexact Q11
  iintro %_ ⟨HO, C11⟩
  rw [wp_bind]
  iapply (part12_run J X K c) $$ [HO W01 A01 D01 E01]
  · isplitr; · iexact HI
    isplitl [HO]; · iexact HO
    isplitl [W01]; · iexact W01
    isplitl [A01]; · iexact A01
    isplitl [D01]; · iexact D01
    isplitl [E01]; · iexact E01
    iexact Q01
  iintro ⟨HO, C01⟩
  rw [wp_bind]
  iapply (part13_run J X K c B) $$ [HO W21 A21 D21 E21 Hwo]
  · isplitr; · iexact HI
    isplitl [HO]; · iexact HO
    isplitr [Hwo]
    · isplitl [W21]; · iexact W21
      isplitl [A21]; · iexact A21
      isplitl [D21]; · iexact D21
      isplitl [E21]; · iexact E21
      iexact Q21
    iexact Hwo
  iintro %_ %_ ⟨HO, C21, Hwo⟩
  dsimp only
  rw [wp_bind]
  iapply (part14_run c B) $$ Hwo
  iintro Hwo
  dsimp only
  rw [wp_bind]
  iapply (part15_run J X K c) $$ [HO L00 L20]
  · isplitr; · iexact HI
    isplitl [HO]; · iexact HO
    isplitl [L00]; · iexact L00
    iexact L20
  iintro ⟨HO, G00, G20⟩
  rw [wp_bind]
  iapply (part16_run J X K c) $$ [HO L10 L01]
  · isplitr; · iexact HI
    isplitl [HO]; · iexact HO
    isplitl [L10]; · iexact L10
    iexact L01
  iintro ⟨HO, G10, G01⟩
  dsimp only
  rw [wp_bind]
  iapply (part17_run J X K c (w₀ := B.out0 c X) (w₁ := B.out1 c X) rfl rfl) $$ [HO L21 L11 Ho]
  · isplitr; · iexact HI
    isplitl [HO]; · iexact HO
    isplitl [L21]; · iexact L21
    isplitl [L11]; · iexact L11
    iexact Ho
  iintro ⟨HO, G21, G11, %f, Ho⟩
  rw [wp_bind]
  iapply (part18_run J X K c) $$ [HO C10 P10 C00 P00 C20 P20]
  · isplitr; · iexact HI
    isplitl [HO]; · iexact HO
    isplitl [C10 P10]
    · isplitl [C10]; · iexact C10
      iexact P10
    isplitl [C00 P00]
    · isplitl [C00]; · iexact C00
      iexact P00
    isplitl [C20]; · iexact C20
    iexact P20
  iintro ⟨HO, U10, U00, U20⟩
  simp only [Prog.lift, Prog.bind_op, Prog.bind_ret, Prog.pure_eq_ret]
  iapply (readout_step J X K c 1 1 rfl rfl) $$ [HO C11 P11]
  · isplitr; · iexact HI
    isplitl [HO]; · iexact HO
    isplitl [C11]; · iexact C11
    iexact P11
  iintro ⟨HO, U11⟩
  iapply (readout_step J X K c 0 1 rfl rfl) $$ [HO C01 P01]
  · isplitr; · iexact HI
    isplitl [HO]; · iexact HO
    isplitl [C01]; · iexact C01
    iexact P01
  iintro ⟨HO, U01⟩
  rw [wp_ret]
  imodintro
  iapply Hc
  isplitl [HO]; · iexact HO
  isplitl [Bv]; · iexact Bv
  isplitl [U10 U00 U20 U11 U01 C21 P21]
  · isplitl [U10]; · iexact U10
    isplitl [U00]; · iexact U00
    isplitl [U20]; · iexact U20
    isplitl [U11]; · iexact U11
    isplitl [U01]; · iexact U01
    isplitl [C21]; · iexact C21
    iexact P21
  isplitl [G10 G00 G20 G11 G01 G21]
  · isplitl [G10]; · iexact G10
    isplitl [G00]; · iexact G00
    isplitl [G20]; · iexact G20
    isplitl [G11]; · iexact G11
    isplitl [G01]; · iexact G01
    iexact G21
  isplitr [Ho]
  · isplitl [Hx]; · iexact Hx
    isplitl [Hwq]; · iexact Hwq
    isplitl [Hk]; · iexact Hk
    isplitl [Hv]; · iexact Hv
    iexact Hwo
  iapply (out_stored X c B f) $$ Ho

set_option maxHeartbeats 4000000 in
/-- The whole body. -/
theorem body_run (h₀ : X c 0 = B.sent0) (h₁ : X c 1 = B.sent1) {Q : PUnit → sProp 𝕄} :
    iprop(records J X K ∗ levAts L lv ∗ owing c (O₀ c) ∗ startRes c ∗ scratchAny c ∗ inputs c B ∗ ∃ f, staged c cc0_stg5_0 f)
      ⊢ iprop(((owing c 0 ∗ endRes c ∗ scratchAny c ∗ inputs c B ∗ staged c cc0_stg5_0 (B.out c X)) -∗ Q ⟨⟩)
        -∗ WP (cc0_body (F := F) xM (Memref.isWhole_whole _) wqM (Memref.isWhole_whole _) kM (Memref.isWhole_whole _) vM (Memref.isWhole_whole _)
      woM (Memref.isWhole_whole _) outM (Memref.isWhole_whole _) bufM (Memref.isWhole_whole _) cc0_scratch1 cc0_scratch2) Q) := by
  rw [cc0_body_eq_skeleton]; unfold cc0_body_skel
  iintro ⟨#HI, Hres⟩ Hc
  rw [wp_bind]
  iapply (part19_run J X K c B h₀ h₁) $$ [Hres]
  · isplitr; · iexact HI
    iexact Hres
  unfold six
  iintro ⟨HO, Bv, ⟨⟨Z10, W10⟩, ⟨Z00, W00⟩, ⟨Z20, W20⟩, ⟨Z11, W11⟩, ⟨Z01, W01⟩, C21, P21⟩,
    ⟨⟨V10, G10⟩, ⟨V00, G00⟩, ⟨V20, G20⟩, ⟨V11, G11⟩, ⟨V01, G01⟩, V21, G21⟩, Hin, Ho⟩
  simp only [Prog.lift, Prog.bind_op, Prog.bind_ret, Prog.pure_eq_ret]
  iapply (readout_step J X K c 2 1 rfl rfl) $$ [HO C21 P21]
  · isplitr; · iexact HI
    isplitl [HO]; · iexact HO
    isplitl [C21]; · iexact C21
    iexact P21
  iintro ⟨HO, Z21, W21⟩
  rw [wp_ret]
  imodintro
  iapply Hc
  unfold endRes six
  isplitl [HO]; · iexact HO
  isplitl [Bv Z10 Z00 Z20 Z11 Z01 Z21 V10 V00 V20 V11 V01 V21]
  · isplitl [Bv]; · iexact Bv
    isplitl [Z10 Z00 Z20 Z11 Z01 Z21]
    · isplitl [Z10]; · iexact Z10
      isplitl [Z00]; · iexact Z00
      isplitl [Z20]; · iexact Z20
      isplitl [Z11]; · iexact Z11
      isplitl [Z01]; · iexact Z01
      iexact Z21
    isplitl [V10]; · iexact V10
    isplitl [V00]; · iexact V00
    isplitl [V20]; · iexact V20
    isplitl [V11]; · iexact V11
    isplitl [V01]; · iexact V01
    iexact V21
  isplitl [W10 W00 W20 W11 W01 W21 G10 G00 G20 G11 G01 G21]
  · iapply (buffer_join c)
    isplitl [W10 W00 W20]
    · iapply (any_of_holds J c 0 0 (X c 0))
      iapply (holds_thirds J c 0 0 (X c 0)).2
      isplitl [W00]; · iexact W00
      isplitl [W10]; · iexact W10
      iexact W20
    isplitl [W11 W01 W21]
    · iapply (any_of_holds J c 0 1 (X c 1))
      iapply (holds_thirds J c 0 1 (X c 1)).2
      isplitl [W01]; · iexact W01
      isplitl [W11]; · iexact W11
      iexact W21
    isplitl [G00]; · iapply (any_of_holds J c (slot 0) 0 _); iexact G00
    isplitl [G01]; · iapply (any_of_holds J c (slot 0) 1 _); iexact G01
    isplitl [G10]; · iapply (any_of_holds J c (slot 1) 0 _); iexact G10
    isplitl [G11]; · iapply (any_of_holds J c (slot 1) 1 _); iexact G11
    isplitl [G20]; · iapply (any_of_holds J c (slot 2) 0 _); iexact G20
    iapply (any_of_holds J c (slot 2) 1 _); iexact G21
  isplitl [Hin]; · iexact Hin
  iexact Ho

end Cert.Exchange

end
-- ==== Proof.Window.lean ====
/-
  The kernel's region on device `c`: what its arrays hold at entry, what its staging buffers hold after the body, what rides
  along before and after the body, and that the body takes the one to the other.
-/
module

public import proofs.«01_k».proof.Proof.Body

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## Contents -/

/-- What the region is entered with on device `c`: the arguments, and the host's slice and reshapes of them. -/
def blocks (c : Dev nD) : Blocks F where
  x := V1 m c main_arg0
  wq := V1 m c main_v9
  k := V1 m c main_v10
  v := V1 m c main_v11
  wo := V1 m c main_arg4

/-- What device `c` sends for each half. -/
abbrev sentBy (c : Dev nD) (h : Fin 2) : Vec F S1x256x256 .bf16 := (blocks m c).sent h

/-- The result's array on device `c` after the run. -/
def result (c : Dev nD) : Vec F S2x256x512 .f32 := (blocks m c).out c (sentBy m)

/-- The contents that the half slots are described over: those at launch on device 0. -/
abbrev base : (cc0_scratch0 : Ref sig .tc).ty.Contents (Elt F) := m ((0 : Dev nD), Proc.devRef .tc cc0_scratch0)

/-! ## The region's data -/

/-- What the body takes of the protocol: the records, its own share, the levels; -/
def Xk (c : Dev nD) : sProp 𝕄 := iprop(∃ K, records (base m) (sentBy m) K ∗ startRes c ∗ levAts L lv)

/-- the counter of the barrier, which the body leaves at zero; -/
def Yk (c : Dev nD) : sProp 𝕄 := semVal (barCell c) 0

/-- and the counters of the kernel's own semaphores, the two it never uses first. -/
def own (c : Dev nD) : sProp 𝕄 :=
  iprop((semVal ((c : Thread nD τ), .dma (⟨12, by decide⟩ : DmaSem sig)) 0 ∗ semVal ((c : Thread nD τ), .dma (⟨13, by decide⟩ : DmaSem sig)) 0)
    ∗ six (F := F) (fun j h => semVal (sendCell c j h) 0) ∗ six (F := F) (fun i h => semVal (recvCell c i h) 0))

/-- The two of them that the body does not touch. -/
def idle (c : Dev nD) : sProp 𝕄 :=
  iprop(semVal ((c : Thread nD τ), .dma (⟨12, by decide⟩ : DmaSem sig)) 0 ∗ semVal ((c : Thread nD τ), .dma (⟨13, by decide⟩ : DmaSem sig)) 0)

/-- The region on device `c`: its arrays as entered, its staging buffers after the body, what rides along, and what is owed. -/
def dat (c : Dev nD) : Dat τ (Elt F) Unit ℕ UU ℕ cfg0 c where
  A w := match w with
    | ⟨0, _⟩ => V1 m c main_arg0
    | ⟨1, _⟩ => V1 m c main_v9
    | ⟨2, _⟩ => V1 m c main_v10
    | ⟨3, _⟩ => V1 m c main_v11
    | ⟨4, _⟩ => V1 m c main_arg4
    | ⟨5, _⟩ => V1 m c main_v12
  after w _ := match w with
    | ⟨0, _⟩ => (blocks m c).x
    | ⟨1, _⟩ => (blocks m c).wq
    | ⟨2, _⟩ => (blocks m c).k
    | ⟨3, _⟩ => (blocks m c).v
    | ⟨4, _⟩ => (blocks m c).wo
    | ⟨5, _⟩ => result m c
  Φ t := match t with
    | ⟨0, _⟩ => iprop((Xk m c ∗ idle c) ∗ scratchAny (F := F) c ∗ ∃ r, prngReg c r)
    | ⟨_ + 1, _⟩ => iprop((Yk c ∗ own c) ∗ scratchAny (F := F) c ∗ ∃ r, prngReg c r)
  q _ := fullShare
  owed t := match t with
    | ⟨0, _⟩ => O₀ c
    | ⟨_ + 1, _⟩ => 0

/-- The one pipeline's data. -/
abbrev pdats (p : Fin 1) (c : Dev nD) : Dat τ (Elt F) Unit ℕ UU ℕ (cfgs p) c := match p with | ⟨0, _⟩ => dat m c

/-! ## A window over a whole array -/

omit [FloatOps F] in
/-- Window 0 is its whole array. -/
theorem whole0 (f : (main_arg0 : Ref sig .tc).ty.Contents (Elt F)) : (win0_0.blk t0_0).view.read (Elt F) f = f :=
  Memref.read_access_unit_zero (Elt F) main_arg0
    (show (fun a => (win0_0.index t0_0) a * main_arg0.ty.shape.size a) = fun _ => 0 from funext fun a => by fin_cases a <;> decide)
    (fun a => by fin_cases a <;> decide) f
omit [FloatOps F] in
/-- Window 1 is its whole array. -/
theorem whole1 (f : (main_v9 : Ref sig .tc).ty.Contents (Elt F)) : (win0_1.blk t0_0).view.read (Elt F) f = f :=
  Memref.read_access_unit_zero (Elt F) main_v9
    (show (fun a => (win0_1.index t0_0) a * main_v9.ty.shape.size a) = fun _ => 0 from funext fun a => by fin_cases a <;> decide)
    (fun a => by fin_cases a <;> decide) f
omit [FloatOps F] in
/-- Window 2 is its whole array. -/
theorem whole2 (f : (main_v10 : Ref sig .tc).ty.Contents (Elt F)) : (win0_2.blk t0_0).view.read (Elt F) f = f :=
  Memref.read_access_unit_zero (Elt F) main_v10
    (show (fun a => (win0_2.index t0_0) a * main_v10.ty.shape.size a) = fun _ => 0 from funext fun a => by fin_cases a <;> decide)
    (fun a => by fin_cases a <;> decide) f
omit [FloatOps F] in
/-- Window 3 is its whole array. -/
theorem whole3 (f : (main_v11 : Ref sig .tc).ty.Contents (Elt F)) : (win0_3.blk t0_0).view.read (Elt F) f = f :=
  Memref.read_access_unit_zero (Elt F) main_v11
    (show (fun a => (win0_3.index t0_0) a * main_v11.ty.shape.size a) = fun _ => 0 from funext fun a => by fin_cases a <;> decide)
    (fun a => by fin_cases a <;> decide) f
omit [FloatOps F] in
/-- Window 4 is its whole array. -/
theorem whole4 (f : (main_arg4 : Ref sig .tc).ty.Contents (Elt F)) : (win0_4.blk t0_0).view.read (Elt F) f = f :=
  Memref.read_access_unit_zero (Elt F) main_arg4
    (show (fun a => (win0_4.index t0_0) a * main_arg4.ty.shape.size a) = fun _ => 0 from funext fun a => by fin_cases a <;> decide)
    (fun a => by fin_cases a <;> decide) f
omit [FloatOps F] in
/-- Window 5 is its whole array. -/
theorem whole5 (f : (main_v12 : Ref sig .tc).ty.Contents (Elt F)) : (win0_5.blk t0_0).view.read (Elt F) f = f :=
  Memref.read_access_unit_zero (Elt F) main_v12
    (show (fun a => (win0_5.index t0_0) a * main_v12.ty.shape.size a) = fun _ => 0 from funext fun a => by fin_cases a <;> decide)
    (fun a => by fin_cases a <;> decide) f

/-! What the body finds in the staging buffer of each input: the array. -/

section Before
variable (c : Dev nD)

/-- What window 0 stages before the body. -/
theorem before0 (d) : (dat m c).before (0 : Fin 6) t0_0 d = (blocks m c).x := by
  unfold Dat.before; rw [if_pos (fetch0_0 t0_0)]; exact whole0 (V1 m c main_arg0)
/-- What window 1 stages before the body. -/
theorem before1 (d) : (dat m c).before (1 : Fin 6) t0_0 d = (blocks m c).wq := by
  unfold Dat.before; rw [if_pos (fetch0_1 t0_0)]; exact whole1 (V1 m c main_v9)
/-- What window 2 stages before the body. -/
theorem before2 (d) : (dat m c).before (2 : Fin 6) t0_0 d = (blocks m c).k := by
  unfold Dat.before; rw [if_pos (fetch0_2 t0_0)]; exact whole2 (V1 m c main_v10)
/-- What window 3 stages before the body. -/
theorem before3 (d) : (dat m c).before (3 : Fin 6) t0_0 d = (blocks m c).v := by
  unfold Dat.before; rw [if_pos (fetch0_3 t0_0)]; exact whole3 (V1 m c main_v11)
/-- What window 4 stages before the body. -/
theorem before4 (d) : (dat m c).before (4 : Fin 6) t0_0 d = (blocks m c).wo := by
  unfold Dat.before; rw [if_pos (fetch0_4 t0_0)]; exact whole4 (V1 m c main_arg4)

/-- The result's array after the region. -/
theorem arr_out : (dat m c).arrAt 5 cfg0.N = result m c := by
  have hw : ((cfg0.win 5).blk t0_0).view.read (Elt F) ((dat m c).arrAt 5 cfg0.N) = (dat m c).flushed 5 t0_0 := by
    rw [show cfg0.N = t0_0.val + 1 from rfl, (dat m c).arrAt_succ (5 : Fin 6) t0_0, flush0_5, if_pos rfl]
    exact View.read_write_univ _ _
  exact (whole5 _).symm.trans hw

end Before

/-! ## What is owed, in the pipeline's form -/

section Owing
variable (c : Dev nD) (t : Fin (cfg0.N + 1)) (O : CellTallies nD τ sig Unit)

/-- What the pipeline says is owed, as the body counts it, -/
theorem owesAt_elim (h : (dat m c).owed t = O) : ((dat m c).owesAt () t : sProp 𝕄) ⊢ owing c O := by
  unfold Dat.owesAt Pipeline.owesWithin owing
  rw [h]
  iintro ⟨%W, -, HO⟩
  iexists W; iexact HO

/-- and the other way. -/
theorem owesAt_intro (h : (dat m c).owed t = O) : (owing c O : sProp 𝕄) ⊢ (dat m c).owesAt () t := by
  unfold Dat.owesAt Pipeline.owesWithin Dat.bound owing
  rw [h]
  iintro ⟨%W, HO⟩
  iexists W
  isplitr; · ipureintro; exact fun _ _ => Or.inl trivial
  iexact HO

end Owing

/-! ## The body takes the one to the other -/

/-- The body meets its obligation at the call's one step. -/
theorem body_ok (c : Dev nD) : BodyObligation (dat m c) defs₀ 𝒱₀ () Set.univ := fun t => by
  obtain rfl := fin_N0 t
  rw [bigSep_W0, bigSep_W0]
  show iprop(((Xk m c ∗ idle c) ∗ scratchAny (F := F) c ∗ ∃ r, prngReg c r) ∗ (dat m c).owesAt () (0 : Fin 2)
      ∗ (∃ d, owns c xM fullShare ((dat m c).before (0 : Fin 6) t0_0 d)) ∗ (∃ d, owns c wqM fullShare ((dat m c).before (1 : Fin 6) t0_0 d))
      ∗ (∃ d, owns c kM fullShare ((dat m c).before (2 : Fin 6) t0_0 d)) ∗ (∃ d, owns c vM fullShare ((dat m c).before (3 : Fin 6) t0_0 d))
      ∗ (∃ d, owns c woM fullShare ((dat m c).before (4 : Fin 6) t0_0 d)) ∗ (∃ d, owns c outM fullShare ((dat m c).before (5 : Fin 6) t0_0 d)))
    ⊢ wp frame (wpE (defs₀ (F := F)) 𝒱₀ (c : Thread nD τ) none) Set.univ
        (cc0_body xM (Memref.isWhole_whole _) wqM (Memref.isWhole_whole _) kM (Memref.isWhole_whole _) vM (Memref.isWhole_whole _)
          woM (Memref.isWhole_whole _) outM (Memref.isWhole_whole _) bufM (Memref.isWhole_whole _) cc0_scratch1 cc0_scratch2)
        (fun _ => iprop(((Yk c ∗ own c) ∗ scratchAny (F := F) c ∗ ∃ r, prngReg c r) ∗ (dat m c).owesAt () (1 : Fin 2)
          ∗ owns c xM fullShare (blocks m c).x ∗ owns c wqM fullShare (blocks m c).wq ∗ owns c kM fullShare (blocks m c).k
          ∗ owns c vM fullShare (blocks m c).v ∗ owns c woM fullShare (blocks m c).wo ∗ owns c outM fullShare (result m c)))
  simp only [owns_whole, before0, before1, before2, before3, before4]
  unfold Xk
  iintro ⟨⟨⟨⟨%K, #HI, Hst, #Hlev⟩, Hid⟩, Hs, Hreg⟩, HO, ⟨%d0, H0⟩, ⟨%d1, H1⟩, ⟨%d2, H2⟩, ⟨%d3, H3⟩, ⟨%d4, H4⟩, ⟨%d5, H5⟩⟩
  iapply (body_run (base m) (sentBy m) K c (blocks m c) rfl rfl) $$ [Hst Hs HO H0 H1 H2 H3 H4 H5]
  · isplitr; · iexact HI
    isplitr; · iexact Hlev
    isplitl [HO]; · iapply (owesAt_elim m c (0 : Fin 2) (O₀ c) rfl); iexact HO
    isplitl [Hst]; · iexact Hst
    isplitl [Hs]; · iexact Hs
    isplitl [H0 H1 H2 H3 H4]
    · unfold inputs
      isplitl [H0]; · iexact H0
      isplitl [H1]; · iexact H1
      isplitl [H2]; · iexact H2
      isplitl [H3]; · iexact H3
      iexact H4
    iexists _; iexact H5
  unfold endRes inputs Yk own idle
  iintro ⟨HO, ⟨Hb, Hsend, Hrecv⟩, Hs, ⟨H0, H1, H2, H3, H4⟩, H5⟩
  isplitr [HO H0 H1 H2 H3 H4 H5]
  · isplitl [Hb Hid Hsend Hrecv]
    · isplitl [Hb]; · iexact Hb
      isplitl [Hid]; · iexact Hid
      isplitl [Hsend]; · iexact Hsend
      iexact Hrecv
    isplitl [Hs]; · iexact Hs
    iexact Hreg
  isplitl [HO]; · iapply (owesAt_intro m c (1 : Fin 2) 0 rfl); iexact HO
  isplitl [H0]; · iexact H0
  isplitl [H1]; · iexact H1
  isplitl [H2]; · iexact H2
  isplitl [H3]; · iexact H3
  isplitl [H4]; · iexact H4
  iexact H5

end Cert.Exchange

end
-- ==== Proof.Deal.lean ====
/-
  The launch of the exchange: its cells, its tokens and its credits, and how they are dealt to the devices.
-/
module

public import proofs.«01_k».proof.Proof.Window

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : (cc0_scratch0 : Ref sig .tc).ty.Contents (Elt F)) (X : Dev nD → Fin 2 → Vec F S1x256x256 .bf16)

/-! ## Six resources as one family -/

omit [FloatOps F] in
/-- Six resources, listed, -/
theorem six_eq (f : Fin 3 → Fin 2 → sProp 𝕄) : bigSep Finset.univ (fun p : Fin 3 × Fin 2 => f p.1 p.2) = six f :=
  bigSep_univ_eq_bigSepL [(1, 0), (0, 0), (2, 0), (1, 1), (0, 1), (2, 1)] (by decide) (by decide) _

omit [FloatOps F] in
/-- and three. -/
theorem three_eq (f : Fin 3 → sProp 𝕄) : bigSep Finset.univ f = iprop(f 0 ∗ f 1 ∗ f 2) :=
  bigSep_univ_eq_bigSepL [0, 1, 2] (by decide) (by decide) _

/-- Going on by `i`, with the step back recorded, is a permutation of devices with steps. -/
def turn : Dev nD × Fin 3 ≃ Dev nD × Fin 3 :=
  ⟨fun p => (peer p.2 p.1, back p.2), fun p => (peer p.2 p.1, back p.2),
    fun p => Prod.ext (peer_back p.2 p.1) (back_back p.2), fun p => Prod.ext (peer_back p.2 p.1) (back_back p.2)⟩

/-- The same with a half along. -/
def turnHalf : Dev nD × Fin 3 × Fin 2 ≃ Dev nD × Fin 3 × Fin 2 :=
  ⟨fun p => (peer p.2.1 p.1, back p.2.1, p.2.2), fun p => (peer p.2.1 p.1, back p.2.1, p.2.2),
    fun p => Prod.ext (peer_back p.2.1 p.1) (Prod.ext (back_back p.2.1) rfl),
    fun p => Prod.ext (peer_back p.2.1 p.1) (Prod.ext (back_back p.2.1) rfl)⟩

/-! ## The tokens -/

/-- A device's duties: three at its barrier cell, one at each send and each receive cell. -/
abbrev Duty : Type := Fin 3 ⊕ (Fin 3 × Fin 2) ⊕ (Fin 3 × Fin 2)

abbrev dutySem : Duty → SemLoc sig × Fin 3
  | .inl i => (.reg barS, i)
  | .inr (.inl p) => (.dma (sendS p.1 p.2), 0)
  | .inr (.inr p) => (.dma (recvS p.1 p.2), 0)

/-- Different duties are on different semaphores. -/
theorem dutySem_inj : Function.Injective dutySem := by decide

def tokEmb : Dev nD × Duty ↪ GSem nD τ sig × ℕ × Fin 3 :=
  ⟨fun p => (((p.1 : Thread nD τ), (dutySem p.2).1), 0, (dutySem p.2).2), fun _ _ h =>
    Prod.ext (congrArg (fun t : GSem nD τ sig × ℕ × Fin 3 => t.1.1.1) h)
      (dutySem_inj (Prod.ext (congrArg (fun t : GSem nD τ sig × ℕ × Fin 3 => t.1.2) h)
        (congrArg (fun t : GSem nD τ sig × ℕ × Fin 3 => t.2.2) h)))⟩

abbrev toks : Finset (GSem nD τ sig × ℕ × Fin 3) := Finset.univ.map tokEmb

/-- The tokens of the duties that device `c` pays. -/
def payTokens (c : Dev nD) : sProp 𝕄 :=
  iprop((tellRes (F := F) c 0 ∗ tellRes c 1 ∗ tellRes c 2) ∗ six (F := F) (fun j h => dutyTok ER (sendCell c j h) 0 0)
    ∗ six (F := F) (fun j h => dutyTok ER (recvCell (peer j c) (back j) h) 0 0))

omit [FloatOps F] in
/-- All the tokens, dealt to the devices that pay the duties. -/
theorem deal_tokens : (bigSep toks (fun x => (dutyTok ER x.1 x.2.1 x.2.2 : sProp 𝕄))) ⊢ bigSep Finset.univ fun c : Dev nD => payTokens (F := F) c := by
  have hsplit : bigSep toks (fun x => (dutyTok ER x.1 x.2.1 x.2.2 : sProp 𝕄))
      = iprop((bigSep Finset.univ fun c : Dev nD => bigSep Finset.univ fun i : Fin 3 => (dutyTok ER (barCell c) 0 i : sProp 𝕄))
        ∗ (bigSep Finset.univ fun c : Dev nD => bigSep Finset.univ fun p : Fin 3 × Fin 2 => (dutyTok ER (sendCell c p.1 p.2) 0 0 : sProp 𝕄))
        ∗ bigSep Finset.univ fun c : Dev nD => bigSep Finset.univ fun p : Fin 3 × Fin 2 => (dutyTok ER (recvCell c p.1 p.2) 0 0 : sProp 𝕄)) := by
    rw [bigSep_map, bigSep_univ_prod, ← bigSep_sep', ← bigSep_sep']
    refine bigSep_congr fun c _ => ?_
    rw [BI.bigSep_univ_sum, BI.bigSep_univ_sum]
    rfl
  have hbar : (bigSep Finset.univ fun c : Dev nD => bigSep Finset.univ fun i : Fin 3 => (dutyTok ER (barCell c) 0 i : sProp 𝕄))
      = bigSep Finset.univ fun c : Dev nD => iprop(tellRes (F := F) c 0 ∗ tellRes c 1 ∗ tellRes c 2) := by
    rw [← bigSep_univ_prod (fun p : Dev nD × Fin 3 => (dutyTok ER (barCell p.1) 0 p.2 : sProp 𝕄)), bigSep_univ_equiv turn, bigSep_univ_prod]
    exact bigSep_congr fun c _ => three_eq (fun j => tellRes (F := F) c j)
  have hrecv : (bigSep Finset.univ fun c : Dev nD => bigSep Finset.univ fun p : Fin 3 × Fin 2 => (dutyTok ER (recvCell c p.1 p.2) 0 0 : sProp 𝕄))
      = bigSep Finset.univ fun c : Dev nD => six (F := F) (fun j h => dutyTok ER (recvCell (peer j c) (back j) h) 0 0) := by
    rw [← bigSep_univ_prod (fun p : Dev nD × Fin 3 × Fin 2 => (dutyTok ER (recvCell p.1 p.2.1 p.2.2) 0 0 : sProp 𝕄)),
      bigSep_univ_equiv turnHalf, bigSep_univ_prod]
    exact bigSep_congr fun c _ => six_eq (F := F) (fun j h => dutyTok ER (recvCell (peer j c) (back j) h) 0 0)
  have hsend : (bigSep Finset.univ fun c : Dev nD => bigSep Finset.univ fun p : Fin 3 × Fin 2 => (dutyTok ER (sendCell c p.1 p.2) 0 0 : sProp 𝕄))
      = bigSep Finset.univ fun c : Dev nD => six (F := F) (fun j h => dutyTok ER (sendCell c j h) 0 0) :=
    bigSep_congr fun c _ => six_eq (F := F) (fun j h => dutyTok ER (sendCell c j h) 0 0)
  rw [hsplit, hbar, hsend, hrecv, ← bigSep_sep', ← bigSep_sep']
  exact Entails.refl _

/-! ## The dormant cells -/

/-- The rights to open device `c`'s send and receive cells. -/
def openings (c : Dev nD) : sProp 𝕄 :=
  iprop(six (F := F) (fun j h => openTok ER (sendCell c j h)) ∗ six (F := F) (fun i h => openTok ER (recvCell c i h)))

omit [FloatOps F] in
/-- The tokens of the copies' cells, sorted by device. -/
theorem deal_openings : (bigSep dmaCells (fun g => (openTok ER g : sProp 𝕄))) ⊢ bigSep Finset.univ fun c : Dev nD => openings (F := F) c := by
  rw [bigSep_map, bigSep_univ_prod]
  refine bigSep_mono fun c _ => ?_
  rw [bigSep_univ_prod, bigSep_univ_eq_bigSepL [false, true] (by decide) (by decide)]
  unfold openings
  rw [← six_eq, ← six_eq]
  exact Entails.refl _

/-- No barrier cell is a copy's cell. -/
theorem disjoint_cells : Disjoint (barCells : Finset (GSem nD τ sig)) dmaCells := by
  rw [Finset.disjoint_left]
  rintro g h₁ h₂
  obtain ⟨c, -, rfl⟩ := Finset.mem_map.mp h₁
  obtain ⟨ck, -, h⟩ := Finset.mem_map.mp h₂
  exact nomatch (congrArg Prod.snd h : SemLoc.dma _ = SemLoc.reg _)

/-! ## The credits -/

/-- Barrier cells are told apart by their devices. -/
theorem bar_eq_iff (c d : Dev nD) : (barCell c : GSem nD τ sig) = barCell d ↔ c = d :=
  ⟨fun h => congrArg (fun g : GSem nD τ sig => g.1.1) h, fun h => h ▸ rfl⟩
/-- Different landings have different receive semaphores, -/
theorem recvS_inj : Function.Injective fun p : Fin 3 × Fin 2 => recvS p.1 p.2 := by decide
/-- so receive cells are told apart by device, slot and half. -/
theorem recv_eq_iff (c d : Dev nD) (i j : Fin 3) (h k : Fin 2) :
    (recvCell c i h : GSem nD τ sig) = recvCell d j k ↔ c = d ∧ i = j ∧ h = k := by
  refine ⟨fun e => ?_, fun ⟨h₁, h₂, h₃⟩ => by rw [h₁, h₂, h₃]⟩
  have h₂ := recvS_inj (a₁ := (i, h)) (a₂ := (j, k)) (SemLoc.dma.inj (congrArg Prod.snd e))
  exact ⟨congrArg (fun g : GSem nD τ sig => g.1.1) e, congrArg Prod.fst h₂, congrArg Prod.snd h₂⟩
/-- A barrier cell is no receive cell. -/
theorem bar_ne_recv (c d : Dev nD) (i : Fin 3) (h : Fin 2) : (barCell c : GSem nD τ sig) ≠ recvCell d i h :=
  fun e => nomatch (congrArg Prod.snd e : SemLoc.reg _ = SemLoc.dma _)

/-- Whether device `d` signals `c`, as a number summed over the steps; -/
def signals (d c : Dev nD) : ℕ := ∑ j : Fin 3, if c = peer j d then 1 else 0
/-- whether it copies a half to `c` from `1 + i` places on. -/
def copies (d c : Dev nD) (i : Fin 3) (h : Fin 2) : ℕ := ∑ p : Fin 3 × Fin 2, if c = peer p.1 d ∧ i = back p.1 ∧ h = p.2 then 1 else 0

/-- Each device gets three signals in all, -/
theorem sum_signals (c : Dev nD) : ∑ d : Dev nD, signals d c = 3 := by revert c; decide
/-- and one copy for each slot and half. -/
theorem sum_copies (c : Dev nD) (i : Fin 3) (h : Fin 2) : ∑ d : Dev nD, copies d c i h = 1 := by revert c i h; decide

/-- Everything owed at launch as one sum. -/
theorem O₀_eq (d : Dev nD) : O₀ d = (∑ p : Fin 3 × Fin 2, oweSend d p.1 p.2) + ∑ j : Fin 3, oweBar d j := by
  rw [Fin.sum_univ_three, Fintype.sum_prod_type, Fin.sum_univ_three, Fin.sum_univ_two, Fin.sum_univ_two, Fin.sum_univ_two]
  unfold O₀ owedSends
  refine funext fun g => Finsupp.ext fun u => ?_
  simp only [Pi.add_apply, Finsupp.add_apply, Pi.zero_apply, Finsupp.zero_apply]
  omega

/-- What a device owes to a barrier cell, -/
theorem owed_bar (d c : Dev nD) : O₀ d (barCell c) () = signals d c := by
  rw [O₀_eq]
  simp only [Pi.add_apply, Finsupp.add_apply, Finset.sum_apply, Finsupp.finset_sum_apply, tallyAt_apply, bar_ne_recv, bar_eq_iff, false_and, if_false,
    Finset.sum_const_zero, Nat.zero_add, and_true, signals]

/-- and to a receive cell. -/
theorem owed_recv (d c : Dev nD) (i : Fin 3) (h : Fin 2) : O₀ d (recvCell c i h) () = copies d c i h * N := by
  rw [O₀_eq]
  simp only [Pi.add_apply, Finsupp.add_apply, Finset.sum_apply, Finsupp.finset_sum_apply, tallyAt_apply, (bar_ne_recv _ _ _ _).symm, recv_eq_iff,
    false_and, if_false, Finset.sum_const_zero, Nat.add_zero, and_true, copies, Finset.sum_mul, ite_mul, Nat.one_mul, Nat.zero_mul]

/-- The credit a barrier cell is owed at launch, -/
theorem launch_bar (c : Dev nD) :
    tallyOn (barCell c) (launchCredit (Pipeline.owing O₀) 0 (barCell c)) = (tallyAt (barCell c) () 3 : CellTallies nD τ sig Unit) := by
  unfold tallyAt
  refine congrArg _ (Finsupp.ext fun u => ?_)
  cases u
  rw [Pipeline.launchCredit_owing, Finsupp.single_eq_same, Finset.sum_congr rfl fun d _ => owed_bar d c, sum_signals]

/-- and the credit a receive cell is owed. -/
theorem launch_recv (c : Dev nD) (i : Fin 3) (h : Fin 2) :
    tallyOn (recvCell c i h) (launchCredit (Pipeline.owing O₀) 0 (recvCell c i h)) = (tallyAt (recvCell c i h) () N : CellTallies nD τ sig Unit) := by
  unfold tallyAt
  refine congrArg _ (Finsupp.ext fun u => ?_)
  cases u
  rw [Pipeline.launchCredit_owing, Finsupp.single_eq_same, Finset.sum_congr rfl fun d _ => owed_recv d c i h, ← Finset.sum_mul, sum_copies, Nat.one_mul]

/-- The credits device `c` waits with. -/
def credits (c : Dev nD) : sProp 𝕄 :=
  iprop(cred (tallyAt (barCell c) () 3) ∗ six (F := F) (fun i h => cred (tallyAt (recvCell c i h) () N)))

omit [FloatOps F] in
/-- A device's launch credit is what it will wait for. -/
theorem deal_credits (c : Dev nD) : (Pipeline.launchCred O₀ c : sProp 𝕄) ⊢ credits (F := F) c := by
  unfold Pipeline.launchCred credits
  rw [bigSep_univ_at _ (SemLoc.reg barS), launch_bar]
  refine sep_mono_right ?_
  have hsub : (Finset.univ.map ⟨fun p : Fin 3 × Fin 2 => (SemLoc.dma (recvS p.1 p.2) : SemLoc sig), fun _ _ h => recvS_inj (SemLoc.dma.inj h)⟩)
      ⊆ Finset.univ.erase (SemLoc.reg barS) := fun x hx => by
    obtain ⟨p, -, rfl⟩ := Finset.mem_map.mp hx
    exact Finset.mem_erase.mpr ⟨nofun, Finset.mem_univ _⟩
  refine (bigSep_subset hsub).trans ?_
  rw [bigSep_map, ← six_eq]
  exact Entails.of_eq (bigSep_congr fun p _ => congrArg cred (launch_recv c p.1 p.2))

end Cert.Exchange

end
-- ==== Proof.Launch.lean ====
/-
  The run of the whole program: every device's host steps and its kernel, from the launch to the end, with the result's array,
  the arguments and every semaphore counter of the final state.
-/
module

public import proofs.«01_k».proof.Proof.Deal

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The two unused ones, the send semaphores and the receive semaphores. -/
abbrev osem : Fin 2 ⊕ (Fin 3 × Fin 2) ⊕ (Fin 3 × Fin 2) → SemLoc sig
  | .inl i => .dma (⟨12 + i.val, by have := i.isLt; show _ < 20; omega⟩ : DmaSem sig)
  | .inr (.inl p) => .dma (sendS p.1 p.2)
  | .inr (.inr p) => .dma (recvS p.1 p.2)

/-- The kernel's own semaphores are none of the staging ones. -/
theorem osem_ok : Pipeline.OwnSemFacts spec0 osem := by decide

omit [FloatOps F] in
/-- The kernel's own semaphores at zero, listed. -/
theorem ownSems_eq (c : Dev nD) : (Pipeline.ownSems0 osem c : sProp 𝕄) = own (F := F) c := by
  unfold Pipeline.ownSems0 own
  rw [BI.bigSep_univ_sum, BI.bigSep_univ_sum, ← six_eq, ← six_eq, bigSep_univ_eq_bigSepL [(0 : Fin 2), 1] (by decide) (by decide)]
  rfl

omit [FloatOps F] in
/-- The one semaphore outside the call is the barrier. -/
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-! ## What a device holds on its way to the kernel -/

/-- Its part of the exchange: the records, its barrier position, its rights to open, the tokens it pays with, its credits. -/
def Tk (c : Dev nD) : sProp 𝕄 :=
  iprop((∃ K, records (base m) (sentBy m) K ∗ atPos ER (barCell c) 0 ∅ 0 ∗ openings (F := F) c ∗ payTokens (F := F) c) ∗ credits (F := F) c)

section Open
variable (J : (cc0_scratch0 : Ref sig .tc).ty.Contents (Elt F)) (X : Dev nD → Fin 2 → Vec F S1x256x256 .bf16) (K : GSem nD τ sig → ℕ)

omit [FloatOps F] in
/-- A cell at zero, with its token, opens the protocol on it. -/
theorem open_cell {g : GSem nD τ sig} (hg : g ∈ (barCells ∪ dmaCells : Finset (GSem nD τ sig))) :
    iprop(records J X K ∗ openTok ER g ∗ semVal g 0) ⊢ (|={Set.univ}=> (iprop(atPos ER g 0 ∅ 0 ∗ reached ER g 0)) : sProp 𝕄) :=
  (sep_mono_left (records_inv J X K hg)).trans (Rounds.cell_open ER (sched J X) (Set.mem_univ (K g)))

omit [FloatOps F] in
/-- Six dormant cells opened, one after another. -/
theorem open_six (g : Fin 3 → Fin 2 → GSem nD τ sig) (hg : ∀ j h, g j h ∈ (barCells ∪ dmaCells : Finset (GSem nD τ sig))) :
    iprop(records J X K ∗ six (F := F) (fun j h => openTok ER (g j h)) ∗ six (F := F) (fun j h => semVal (g j h) 0))
      ⊢ (|={Set.univ}=> six (F := F) (fun j h => iprop(atPos ER (g j h) 0 ∅ 0 ∗ reached ER (g j h) 0)) : sProp 𝕄) := by
  rw [← six_eq, ← six_eq, ← six_eq, ← bigSep_sep']
  have hstep : iprop(records J X K ∗ bigSep Finset.univ fun p : Fin 3 × Fin 2 => iprop(openTok ER (g p.1 p.2) ∗ semVal (g p.1 p.2) 0))
      ⊢ (bigSep Finset.univ fun p : Fin 3 × Fin 2 =>
          iprop(|={Set.univ}=> (iprop(atPos ER (g p.1 p.2) 0 ∅ 0 ∗ reached ER (g p.1 p.2) 0))) : sProp 𝕄) :=
    bigSep_with_persistent (R := records J X K) fun p _ => open_cell J X K (hg p.1 p.2)
  exact hstep.trans (bigSep_fupd _ _)

end Open

/-- Entering the kernel opens the send and the receive cells. -/
theorem hopen (c : Dev nD) : iprop(Tk m c ∗ Pipeline.ownSems0 osem c ∗ levAts L lv) ⊢ (|={Set.univ}=> iprop(Xk m c ∗ idle c) : sProp 𝕄) := by
  rw [ownSems_eq]
  unfold Tk own Xk idle openings payTokens credits startRes
  iintro ⟨⟨⟨%K, #HI, Hat, ⟨Os, Or⟩, Ht, Hs, Hr⟩, Cb, Cr⟩, ⟨Hid, Vs, Vr⟩, #Hlev⟩
  imod (open_six (base m) (sentBy m) K (fun j h => sendCell c j h) (fun j h => send_mem c j h)) $$ [Os Vs] with Hsend
  · isplitr; · iexact HI
    isplitl [Os]; · iexact Os
    iexact Vs
  imod (open_six (base m) (sentBy m) K (fun j h => recvCell c j h) (fun j h => recv_mem c j h)) $$ [Or Vr] with Hrecv
  · isplitr; · iexact HI
    isplitl [Or]; · iexact Or
    iexact Vr
  imodintro
  isplitr [Hid]
  · iexists K
    isplitr; · iexact HI
    isplitr [Hlev]
    · isplitl [Ht]; · iexact Ht
      isplitl [Cb Hat]
      · isplitl [Cb]; · iexact Cb
        iexact Hat
      unfold six
      icases Hsend with ⟨⟨P10, #R10⟩, ⟨P00, #R00⟩, ⟨P20, #R20⟩, ⟨P11, #R11⟩, ⟨P01, #R01⟩, P21, #R21⟩
      icases Hs with ⟨S10, S00, S20, S11, S01, S21⟩
      icases Hr with ⟨D10, D00, D20, D11, D01, D21⟩
      icases Hrecv with ⟨⟨A10, #B10⟩, ⟨A00, #B00⟩, ⟨A20, #B20⟩, ⟨A11, #B11⟩, ⟨A01, #B01⟩, A21, #B21⟩
      icases Cr with ⟨C10, C00, C20, C11, C01, C21⟩
      isplitl [P10 P00 P20 P11 P01 P21 S10 S00 S20 S11 S01 S21 D10 D00 D20 D11 D01 D21]
      · isplitl [P10 S10 D10]
        · isplitl [S10]
          · isplitl [S10]; · iexact S10
            iexact R10
          isplitl [D10]; · iexact D10
          iexact P10
        isplitl [P00 S00 D00]
        · isplitl [S00]
          · isplitl [S00]; · iexact S00
            iexact R00
          isplitl [D00]; · iexact D00
          iexact P00
        isplitl [P20 S20 D20]
        · isplitl [S20]
          · isplitl [S20]; · iexact S20
            iexact R20
          isplitl [D20]; · iexact D20
          iexact P20
        isplitl [P11 S11 D11]
        · isplitl [S11]
          · isplitl [S11]; · iexact S11
            iexact R11
          isplitl [D11]; · iexact D11
          iexact P11
        isplitl [P01 S01 D01]
        · isplitl [S01]
          · isplitl [S01]; · iexact S01
            iexact R01
          isplitl [D01]; · iexact D01
          iexact P01
        isplitl [S21]
        · isplitl [S21]; · iexact S21
          iexact R21
        isplitl [D21]; · iexact D21
        iexact P21
      isplitl [A10 C10]
      · isplitr; · iexact B10
        isplitl [C10]; · iexact C10
        iexact A10
      isplitl [A00 C00]
      · isplitr; · iexact B00
        isplitl [C00]; · iexact C00
        iexact A00
      isplitl [A20 C20]
      · isplitr; · iexact B20
        isplitl [C20]; · iexact C20
        iexact A20
      isplitl [A11 C11]
      · isplitr; · iexact B11
        isplitl [C11]; · iexact C11
        iexact A11
      isplitl [A01 C01]
      · isplitr; · iexact B01
        isplitl [C01]; · iexact C01
        iexact A01
      isplitr; · iexact B21
      isplitl [C21]; · iexact C21
      iexact A21
    iexact Hlev
  iexact Hid

/-! ## The region -/

/-- What the region leaves in the result's array. -/
def outs : Outs (F := F) := fun _ r c => if h : r = main_v12 then h ▸ result m c else V1 m c r

/-- What the call leaves in its result, -/
theorem outs_out (c : Dev nD) : outs m 2 main_v12 c = result m c := dif_pos rfl

/-- so the result's array after the call. -/
theorem V2_out (c : Dev nD) : V2 m (outs m) c main_v12 = result m c := by
  unfold V2
  rw [Function.update_self]
  exact outs_out m c

/-- The staging semaphores sit at the bottom. -/
theorem staging_level : ∀ (w : Fin 6) (s : Fin (spec0 w).nbuf), lvOf (.dma ((spec0 w).sem s)) ≤ 0 := by decide

/-- The facts of the launch. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers no window reads or writes. -/
abbrev others : Finset (DevRef τ sig) := Pipeline.ucRefs τ sig \ Pipeline.arrRefs (τ := τ) spec0

/-- Whatever is owed at a step is above the level of the staging. -/
theorem above_zero (c : Dev nD) (t : Fin (cfg0.N + 1)) (g : GSem nD τ sig) (u : Unit) (h : 0 < (dat m c).owed t g u) :
    u ∈ L g ∧ (0 : ℕ) < lv g u := by
  match t with
  | ⟨0, _⟩ =>
    rcases O₀_pos (show 0 < O₀ c g u from h) with ⟨d, i, k, rfl⟩ | ⟨d, rfl⟩
    · exact ⟨by rw [L_tc]; exact Finset.mem_singleton_self _, by rw [lv_recv]; decide⟩
    · exact ⟨by rw [L_tc]; exact Finset.mem_singleton_self _, Nat.one_pos⟩
  | ⟨_ + 1, _⟩ => exact absurd (show 0 < (0 : CellTallies nD τ sig Unit) g u from h) (Nat.lt_irrefl 0)

set_option backward.isDefEq.respectTransparency.types false in
/-- The region's record: entered with the device's part of the exchange, left with the barrier's counter at zero. -/
def region : Pipeline.RegionSeg (pcfgs (F := F)) adm (pdats m) () defs₀ 𝒱₀ L lv 0 :=
  Pipeline.RegionSeg.ofTalk (pcfgs (F := F)) adm (pdats m) () defs₀ 𝒱₀ L lv 0 osem osem_ok
    ∅ others (Finset.empty_subset _) kit rfl (fun c => (body_ok m c).loose)
    (fun _ => 0) O₀ (fun c => (zero_add (O₀ c)).symm) (fun _ => rfl) (fun _ => rfl) (fun _ w => by fin_cases w <;> rfl)
    (V1 m) (V2 m (outs m))
    (fun c b hb => Function.update_of_ne (fun h => (Finset.mem_sdiff.mp (Finset.mem_sdiff.mp hb).1).2
      (by subst h; decide)) _ _)
    (Tk m) (fun c => Yk c) (fun c => iprop(Xk m c ∗ idle c)) (fun c => Yk c) (hopen m)
    (fun c => by
      rw [show (pdats m 0 c).Φ 0 = iprop((Xk m c ∗ idle c) ∗ scratchAny (F := F) c ∗ ∃ r, prngReg c r) from rfl]
      iintro ⟨Hs, Hp, -, HX⟩
      isplitl [HX]; · iexact HX
      isplitl [Hs]; · iapply (Entails.of_eq (scopedRest0_eq c)); iexact Hs
      iexact Hp)
    (fun c => by
      rw [show (pdats m 0 c).Φ (Fin.last _) = iprop((Yk c ∗ own c) ∗ scratchAny (F := F) c ∗ ∃ r, prngReg c r) from rfl, ownSems_eq]
      iintro ⟨⟨HY, Ho⟩, Hs, Hp⟩
      isplitl [Hs]; · iapply (Entails.of_eq (scopedRest0_eq c).symm); iexact Hs
      isplitl [Hp]; · iexact Hp
      isplitr
      · unfold StableHlo.held; rw [BI.bigSep_empty]; iempintro
      isplitl [Ho]; · iexact Ho
      iexact HY)
    (fun c => by iintro H; imodintro; iexact H)
    (fun _ => 0)
    ⟨fun c w s => by rw [L_tc]; exact Finset.mem_singleton_self _, fun c w s => staging_level w s, fun c t g i h => above_zero m c t g i h⟩
    (fun _ => iprop(emp))
    (fun c w => by fin_cases w <;> rfl)
    (fun c w => by
      fin_cases w
      · exact ((dat m c).arrAt_in (0 : Fin 6) rfl _).trans (V2_of m (outs m) c main_arg0 (by decide)).symm
      · exact ((dat m c).arrAt_in (1 : Fin 6) rfl _).trans (V2_of m (outs m) c main_v9 (by decide)).symm
      · exact ((dat m c).arrAt_in (2 : Fin 6) rfl _).trans (V2_of m (outs m) c main_v10 (by decide)).symm
      · exact ((dat m c).arrAt_in (3 : Fin 6) rfl _).trans (V2_of m (outs m) c main_v11 (by decide)).symm
      · exact ((dat m c).arrAt_in (4 : Fin 6) rfl _).trans (V2_of m (outs m) c main_arg4 (by decide)).symm
      · exact (arr_out m c).trans (V2_out m c).symm)

end Cert.Exchange

end
-- ==== Proof.Run.lean ====
/-
  Every fair run of the program ends, with the arguments as launched, the result's array at the value the body computes, and
  every semaphore counter of the machine at zero.
-/
module

public import proofs.«01_k».proof.Proof.Launch

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg)

variable {F : FTy → Type} [FloatOps F]

local notation "𝕄" => MT nD τ sig Unit (Elt F) ℕ UU ℕ

variable (m : (ℓ : Loc nD τ sig) → Buf (Elt F) ℓ) (ρ : Dev nD → PrngReg)

/-! ## What rides along beside the buffers -/

/-- Up to the region: the device's part of the exchange, its register, what it owes. -/
def before (c : Dev nD) : sProp 𝕄 := iprop(Tk m c ∗ (∃ r, prngReg c r) ∗ owing c (O₀ c))
/-- After it: the barrier's counter, and nothing owed. -/
def after (c : Dev nD) : sProp 𝕄 := iprop(Yk c ∗ owing c 0)

def along : Fin 2 → Dev nD → sProp 𝕄
  | 0 => before m
  | 1 => after

/-- The call's arrays are buffers outside it. -/
theorem arr_sub : Pipeline.arrRefs (τ := τ) spec0 ⊆ Pipeline.ucRefs τ sig := by decide

/-- What the program holds before the call is what the call needs. -/
theorem region_pre (c : Dev nD) :
    iprop(StableHlo.held (c : Thread nD τ) (Pipeline.ucRefs τ sig) (V1 m c) ∗ before m c) ⊢ (region m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + O₀ c) Wd)
  rw [StableHlo.held_sub_split (c.tc : Thread nD τ) arr_sub (V1 m c), zero_add]
  unfold before owing
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- What the call leaves is what the program holds after it. -/
theorem region_post (c : Dev nD) :
    (region m).post c ⊢ iprop(StableHlo.held (c : Thread nD τ) (Pipeline.ucRefs τ sig) (V2 m (outs m) c) ∗ after (F := F) c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ Yk c
      ∗ ∃ Wd, owes (c : Thread nD τ) (0 : CellTallies nD τ sig Unit) Wd) ⊢ _
  rw [StableHlo.held_sub_split (c.tc : Thread nD τ) arr_sub (V2 m (outs m) c)]
  unfold after owing
  iintro ⟨Ha, -, ⟨Hr, -⟩, Hy, HO⟩
  isplitl [Ha Hr]
  · isplitl [Ha]; · iexact Ha
    iexact Hr
  isplitl [Hy]; · iexact Hy
  iexact HO

/-! ## The launch -/

/-- The launch element: the pipeline's and the exchange's. -/
def u₀ : UU :=
  (initOf (Pipeline.cells cfgs cellOf_inj) (Pipeline.launchToks cfgs cellOf_inj), launchOf barCells dmaCells toks)

/-- A resource given to device 0 and to no other. -/
def onZero (P : sProp 𝕄) (c : Dev nD) : sProp 𝕄 := if c = 0 then P else iprop(emp)

omit [FloatOps F] in
/-- A resource given to the first place only is that resource. -/
theorem bigSep_onZero (P : sProp 𝕄) : bigSep Finset.univ (onZero (F := F) P) = P := by
  rw [bigSep_univ_at _ (0 : Dev nD), bigSep_congr (s := Finset.univ.erase (0 : Dev nD)) (Ψ := fun _ => (BI.emp : sProp 𝕄))
    fun c hc => by unfold onZero; rw [if_neg (Finset.ne_of_mem_erase hc)]; rfl, BI.bigSep_emp_const]
  unfold onZero
  rw [if_pos rfl]
  exact BI.equiv_iff.mp sep_emp

/-- The exchange's half of the launch element, as it is handed to the launch. -/
def seed : Dev nD → sProp 𝕄 := onZero (BI.own (ER (launchOf barCells dmaCells toks)))

/-- Of what a device holds at launch, the part that is dealt to it straight away. -/
def ready (c : Dev nD) : sProp 𝕄 :=
  iprop(StableHlo.held (c : Thread nD τ) (Pipeline.ucRefs τ sig) (V0 m c) ∗ credits (F := F) c ∗ (∃ r, prngReg c r) ∗ owing c (O₀ c))

/-- A device's start, from the shared records and what is dealt to it. -/
theorem start_intro (K : GSem nD τ sig → ℕ) (c : Dev nD) :
    iprop(records (base m) (sentBy m) K ∗ (atPos ER (barCell c) 0 ∅ 0 ∗ openings (F := F) c ∗ payTokens (F := F) c) ∗ ready m c)
      ⊢ iprop(StableHlo.held (c : Thread nD τ) (Pipeline.ucRefs τ sig) (V0 m c) ∗ before m c) := by
  unfold ready before Tk
  iintro ⟨#HI, ⟨Hat, Ho, Ht⟩, Hh, Hc, Hp, HO⟩
  isplitl [Hh]; · iexact Hh
  isplitl [Hat Ho Ht Hc]
  · isplitl [Hat Ho Ht]
    · iexists K
      isplitr; · iexact HI
      isplitl [Hat]; · iexact Hat
      isplitl [Ho]; · iexact Ho
      iexact Ht
    iexact Hc
  isplitl [Hp]; · iexact Hp
  iexact HO

/-- What one device brings to the launch, sorted. -/
theorem bring (c : Dev nD) :
    iprop(unscopedBufs c (fun b => m ((c.tc : Thread nD τ).loc b)) ∗ unscopedSems0 c
        ∗ owes (c.tc : Thread nD τ) (O₀ c) ∅ ∗ Pipeline.launchCred O₀ c ∗ prngReg c (ρ c) ∗ seed c)
      ⊢ (iprop(ready m c ∗ semVal (barCell c) 0 ∗ seed c) : sProp 𝕄) := by
  rw [show (unscopedBufs c (fun b => m ((c.tc : Thread nD τ).loc b)) : sProp 𝕄) = StableHlo.held (c : Thread nD τ) (Pipeline.ucRefs τ sig) (V0 m c)
    from Pipeline.unscopedBufs_held c (V0 m c), unscopedSems_eq]
  unfold ready owing
  iintro ⟨Hh, Hb, HO, Hc, Hp, HG⟩
  isplitr [Hb HG]
  · isplitl [Hh]; · iexact Hh
    isplitl [Hc]; · iapply (deal_credits (F := F) c); iexact Hc
    isplitl [Hp]; · iexists (ρ c); iexact Hp
    iexists ∅; iexact HO
  isplitl [Hb]; · iexact Hb
  iexact HG

omit [FloatOps F] in
/-- Two resources per device, as two families. -/
theorem apart {Φ Ψ : Dev nD → sProp 𝕄} :
    (bigSep Finset.univ fun c => iprop(Φ c ∗ Ψ c)) ⊢ iprop(bigSep Finset.univ Φ ∗ bigSep Finset.univ Ψ) :=
  Entails.of_eq (bigSep_sep' _ _ _)

omit [FloatOps F] in
/-- Two families, as two resources per device. -/
theorem joined {Φ Ψ : Dev nD → sProp 𝕄} :
    iprop(bigSep Finset.univ Φ ∗ bigSep Finset.univ Ψ) ⊢ bigSep Finset.univ fun c => iprop(Φ c ∗ Ψ c) :=
  Entails.of_eq (bigSep_sep' _ _ _).symm

/-- The launch: the cells' invariants are made, and everything is dealt. -/
theorem launch :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ seed c)) ∗ levAts L lv)
      ⊢ (|={Set.univ}=> bigSep Finset.univ fun c : Dev nD =>
          iprop(StableHlo.held (c : Thread nD τ) (Pipeline.ucRefs τ sig) (V0 m c) ∗ before m c) : sProp 𝕄) := by
  have hcounters : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hpos : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hsort : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ seed c))
      ⊢ (bigSep Finset.univ fun c : Dev nD => iprop(ready m c ∗ semVal (barCell c) 0 ∗ seed c) : sProp 𝕄) :=
    bigSep_mono fun c _ => bring (F := F) m ρ c
  iintro ⟨H, -⟩
  ihave H := hsort $$ H
  ihave H := apart $$ H
  icases H with ⟨Hready, H⟩
  ihave H := apart $$ H
  icases H with ⟨Hb, HG⟩
  ihave Hu := (show bigSep Finset.univ (seed (F := F)) ⊢ BI.own (ER (launchOf barCells dmaCells toks)) from
    Entails.of_eq (bigSep_onZero (F := F) _)) $$ HG
  imod (Rounds.fund_launch ER (sched (base m) (sentBy m)) disjoint_cells (fun g _ h => h) toks) $$ [Hb Hu] with ⟨%K, -, #Hinv, #Hr, Hat, Hopen, Htok⟩
  · isplitl [Hb]
    · iapply hcounters $$ Hb
    · iexact Hu
  imodintro
  iapply (bigSep_with_persistent (R := records (base m) (sentBy m) K)
    (Φ := fun c => iprop((atPos ER (barCell c) 0 ∅ 0 ∗ openings (F := F) c ∗ payTokens (F := F) c) ∗ ready m c)) fun c _ => start_intro m K c)
  isplitr
  · unfold records
    isplitr; · iexact Hinv
    iexact Hr
  iapply joined
  isplitr [Hready]
  · iapply joined; isplitl [Hat]; · iapply hpos $$ Hat
    iapply joined; isplitl [Hopen]; · iapply (deal_openings (F := F)); iexact Hopen
    iapply (deal_tokens (F := F)); iexact Htok
  · iexact Hready

/-! ## The run -/

/-- The barrier is the only semaphore outside the call. -/
theorem unscoped_is_bar : ∀ sm : SemLoc sig, sm.isScoped .tc = false → sm = .reg barS := by decide

/-- What is read off device `c` at the end. -/
def Ends (c : Dev nD) (s : MemSt nD τ sig (Elt F)) : Prop :=
  (s.mem ((c.tc : Thread nD τ).loc main_v12) = result m c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))

set_option backward.isDefEq.respectTransparency.types false in
/-- Every run of the program ends with the result on each device, the arguments unchanged and every counter at zero. -/
theorem run_main : θ_run defs (onTc (τ := τ) (main (F := F))) ⟨m, fun _ => 0, ρ⟩
    (fun r => (∀ c : Dev nD, Ends m c r.2) ∧ r.2.sem = fun _ => 0) := by
  refine Pipeline.θ_run_regions_kit_dev_sems (pcfgs (F := F)) adm (pdats m) () cellOf_inj EP defs₀ 𝒱₀ L lv m ρ main
    (segs m 𝒱₀ L lv (along m) () (pdats m) (region m))
    (fun c Q => by
      rewrite [main_chain c, Seg.run_eq_chain,
        show (segs m 𝒱₀ L lv (along m) () (pdats m) (region m) c).map Seg.prog
          = [StableHlo.seq (hostOps0 c), Prog.lift (.customCall (Pipeline.entry 0) ())] from rfl]
      exact .rfl)
    (fun c => by simp only [segs, Seg.pipes_host, Seg.pipes_region, Seg.pipes_nil]; decide)
    O₀ L_of_ne seed u₀ ?_
    (T₀ := fun c => iprop(StableHlo.held (c : Thread nD τ) (Pipeline.ucRefs τ sig) (V0 m c) ∗ before m c))
    (Tₙ := fun c => iprop(StableHlo.held (c : Thread nD τ) (Pipeline.ucRefs τ sig) (V2 m (outs m) c) ∗ Yk c))
    (hch := fun c => ⟨.rfl, region_pre m c, (region_post m c).trans ?_⟩)
    (hinit := launch m ρ)
    (QY := fun c s => Ends m c s ∧ s.sem (barCell c) = 0)
    (hfin := fun c s' => ?_)
    (hQ := fun s h hs => ⟨fun c => (h c).1, sem_eq_zero hs fun c sm hsm => by
      obtain rfl := unscoped_is_bar sm hsm
      exact (h c).2⟩)
  · unfold u₀ seed
    iintro Hu
    ihave H := (ownU_pair _ _) $$ Hu
    icases H with ⟨HP, HX⟩
    imodintro
    isplitl [HP]; · iexact HP
    rw [bigSep_onZero]; iexact HX
  · unfold after owing
    iintro ⟨Hh, Hy, HO⟩
    isplitr [HO]
    · isplitl [Hh]; · iexact Hh
      iexact Hy
    iexact HO
  · unfold StableHlo.held Yk
    iintro ⟨⟨Hh, Hb⟩, HSI⟩
    icombine HSI Hb gives %hb
    ihave Hr := (pointsTo_read_all (Pipeline.ucRefs τ sig) (fun b => ((c : Thread nD τ).1, b)) (V2 m (outs m) c) s') $$ [Hh HSI]
    · isplitl [Hh] <;> iassumption
    icases Hr with ⟨%h, HSI⟩
    imodintro
    isplitr
    · ipureintro
      have hr : ∀ r : Ref sig .tc, Proc.devRef .tc r ∈ Pipeline.ucRefs τ sig → s'.mem.mem ((c.tc : Thread nD τ).loc r) = V2 m (outs m) c r :=
        fun r hr => h (Proc.devRef .tc r) hr
      exact ⟨⟨(hr main_v12 (by decide)).trans (V2_out m c), (hr main_arg0 (by decide)).trans (V2_main_arg0 m (outs m) c),
        (hr main_arg1 (by decide)).trans (V2_main_arg1 m (outs m) c), (hr main_arg2 (by decide)).trans (V2_main_arg2 m (outs m) c),
        (hr main_arg3 (by decide)).trans (V2_main_arg3 m (outs m) c), (hr main_arg4 (by decide)).trans (V2_main_arg4 m (outs m) c)⟩, by simpa using hb⟩
    · iexact HSI

end Cert.Exchange

end
-- ==== Proof.Frames.lean ====
/-
  The frame of the kernel, over any float values and so over both programs: arguments unchanged, every counter at zero.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.Exchange

open Idealize.ShloMosaic Idealize.ShloMosaic.TcCoe Idealize.SL.Sem

/-- The frame, over any float values. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono (fun _ h => ⟨fun c => (h.1 c).2, h.2⟩) (run_main m ρ)

/-- The two programs' tables of bodies are one table. -/
theorem bodies_same {F : FTy → Type} [FloatOps F] : Cert.Kernel.defs₀ (F := F) = Cert.KernelIdeal.defs₀ (F := F) := by
  unfold Cert.Kernel.defs₀ Cert.KernelIdeal.defs₀
  refine congrArg Defs.onTc ?_
  funext l a
  obtain ⟨_ | l, hl⟩ := l
  · obtain ⟨t, s⟩ := a
    exact rfl
  · exact absurd hl (Nat.not_lt.2 (Nat.le_add_left _ _))

/-- And so with each call's pipeline added. -/
theorem defs_same {F : FTy → Type} [FloatOps F] : Cert.Kernel.defs (F := F) = Cert.KernelIdeal.defs (F := F) :=
  congrArg (Pipeline.defs (Cert.KernelIdeal.pcfgs (F := F))) bodies_same

/-- The kernel over the machine's float words: its text is the ideal program's, so the one run serves. -/
theorem frame_kernel : Cert.quiescent_Kernel (hKernel := Cert.Kernel.Gen.facts) := fun m ρ _ => by
  rw [defs_same]
  exact frame_any (F := Bits) m ρ

/-- The kernel over the extended reals. -/
theorem frame_ideal : Cert.quiescent_KernelIdeal (hKernelIdeal := Cert.KernelIdeal.Gen.facts) := fun m ρ _ => frame_any (F := Ideal) m ρ

/-- The reference: its run leaves the arguments as they were, and it declares no semaphore to count. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Exchange

end
-- ==== Proof.Attend.lean ====
/-
  Distributed attention in plain mathematics over the extended reals: one head, the mask, and the sum over all heads' columns.
-/
module

public import Idealize.ShloMosaic.Lib.Pointwise

@[expose] public section

noncomputable section

namespace Cert.Exchange

open Idealize.ShloMosaic

/-! ## One head -/

section Head
variable (M : Fin 256 → Fin 256 → BitVec 1) (q k v : Fin 256 → Fin 64 → EReal)

/-- The scaled product of query `i` with key `j` where the mask lets it through, and the mask's value elsewhere. -/
def score (i j : Fin 256) : EReal :=
  Scalar.select (M i j) ((∑ e, q i e * k j e) * Ideal.ofBits .f32 0x3E000000#32) (Ideal.ofBits .f32 0xCE6E6B28#32)

/-- The largest score of query `i`. -/
def peak (i : Fin 256) : EReal := Finset.fold max (Ideal.ofBits .f32 0xFF800000#32) (fun j => score M q k i j) Finset.univ

/-- The unnormalised weight of key `j` for query `i`. -/
def weight (i j : Fin 256) : EReal := Ideal.exp (score M q k i j - peak M q k i)

/-- The context of query `i`: the values weighted by the softmax of its scores. -/
def attend (i : Fin 256) (e : Fin 64) : EReal := ∑ j, Ideal.div (weight M q k i j) (∑ j', weight M q k i j') * v j e

end Head

/-! ## The mask -/

/-- The block of 64 positions that position `i` lies in, as a word. -/
def place (i : Fin 256) : BitVec 32 := BitVec.ofNat 32 (i.val / 64)

/-- Query `i` attends to key `j`: their blocks are equal, or equal modulo four. -/
def sees (i j : Fin 256) : BitVec 1 :=
  IntOp.ori (IntOp.cmpi .eq (place i) (place j)) (IntOp.cmpi .eq (place j) (place i))

/-- Every query attends to itself. -/
theorem sees_self (i : Fin 256) : sees i i = 1#1 := by revert i; decide

/-! ## All heads -/

/-- Column `e` of head `h` among the heads of one device, -/
def col (h : Fin 4) (e : Fin 64) : Fin 256 := ⟨64 * h.val + e.val, by omega⟩
/-- column `u` of device `o` among all columns, -/
def wide (o : Fin 4) (u : Fin 256) : Fin 1024 := ⟨256 * o.val + u.val, by omega⟩
/-- head `h` of device `o` among all heads, -/
def head (o h : Fin 4) : Fin 16 := ⟨4 * o.val + h.val, by omega⟩
/-- the head and the place in it of column `u` of a device. -/
def headOf (u : Fin 256) : Fin 4 := ⟨u.val / 64, by omega⟩
def within (u : Fin 256) : Fin 64 := ⟨u.val % 64, by omega⟩

/-- A column is the place of its head and its place in that head. -/
theorem col_split (u : Fin 256) : col (headOf u) (within u) = u := by
  ext; simp only [col, headOf, within]; omega

/-- The whole arrays: activations, query weights, keys, values, output weights. -/
structure Whole where
  x : Fin 2 → Fin 256 → Fin 512 → EReal
  wq : Fin 512 → Fin 1024 → EReal
  k : Fin 2 → Fin 256 → Fin 16 → Fin 64 → EReal
  v : Fin 2 → Fin 256 → Fin 16 → Fin 64 → EReal
  wo : Fin 1024 → Fin 512 → EReal

namespace Whole
variable (A : Whole)

/-- The queries of batch element `b`, column `t`. -/
def query (b : Fin 2) (i : Fin 256) (t : Fin 1024) : EReal := ∑ s, A.x b i s * A.wq s t

/-- The context of batch element `b` in the columns of device `o`. -/
def ctx (b : Fin 2) (o : Fin 4) (i u : Fin 256) : EReal :=
  attend sees (fun i e => A.query b i (wide o (col (headOf u) e))) (fun j e => A.k b j (head o (headOf u)) e)
    (fun j e => A.v b j (head o (headOf u)) e) i (within u)

/-- The result: the contexts of all devices' columns against the rows of the output weights. -/
def result (b : Fin 2) (i : Fin 256) (n : Fin 512) : EReal := ∑ o, ∑ u, A.ctx b o i u * A.wo (wide o u) n

end Whole

/-- A sum over all columns is a sum over devices of sums over a device's columns. -/
theorem sum_wide (f : Fin 1024 → EReal) : ∑ t, f t = ∑ o, ∑ u, f (wide o u) := by
  rw [← Fintype.sum_prod_type', ← Equiv.sum_comp (finProdFinEquiv (m := 4) (n := 256))]
  refine Finset.sum_congr rfl fun p _ => congrArg f (Fin.ext ?_)
  simp only [wide, finProdFinEquiv_apply_val]
  omega

end Cert.Exchange

end
-- ==== Proof.Head.lean ====
/-
  What one device of the kernel computes, read at an index: the heads, the contexts, the two halves of the result.
-/
module

public import proofs.«01_k».proof.Proof.Content
public import proofs.«01_k».proof.Proof.Attend

@[expose] public section

noncomputable section

namespace Cert.Exchange

open Cert.KernelIdeal Cert.KernelIdeal.Gen
open Idealize.ShloMosaic Idealize.ShloMosaic.TcCoe

/-! ## One head -/

/-- One head of the kernel: scores, softmax over the keys, product with the values. -/
def headVec {F : FTy → Type} [FloatOps F] (M : IVec S256x256 1) (q k v : FVec F S256x64 .bf16) : FVec F S256x64 .bf16 :=
  let s : FVec F S256x256 .f32 := select M
    (mulf (matmul dot_S256x64_S256x64_S256x256_1_1_0_0_n_n none q k (constant S256x256 .f32 0x00000000#32))
      (broadcast S256x256 (Scalar.ofBits .f32 0x3E000000#32 : F .f32)))
    (broadcast S256x256 (Scalar.ofBits .f32 0xCE6E6B28#32 : F .f32))
  let e : FVec F S256x256 .f32 := exp (subf s (broadcastTo S256x256
    (shapeCast S256x1 (multiReduction .maximumf [1] S256 s 0xFF800000#32 reduces_S256x256_S256 (.inl rfl) rfl) shapeCasts_S256_S256x1)
    broadcasts_S256x1_S256x256))
  let w : FVec F S256x256 .f32 := divf e (broadcastTo S256x256
    (shapeCast S256x1 (multiReduction .add [1] S256 e 0x00000000#32 reduces_S256x256_S256 (.inl rfl) rfl) shapeCasts_S256_S256x1)
    broadcasts_S256x1_S256x256)
  truncf .bf16 (matmul dot_S256x256_S256x64_S256x64_1_0_0_1_n_n none (truncf .bf16 w bitsLt_bf16_f32) v
    (constant S256x64 .f32 0x00000000#32)) bitsLt_bf16_f32

/-- One head of the kernel is one head of attention. -/
theorem head_at (M : IVec S256x256 1) (q k v : FVec Ideal S256x64 .bf16) (i : Fin 256) (e : Fin 64) :
    headVec M q k v (ix2 i e) = attend (fun i j => M (ix2 i j)) (fun i e => q (ix2 i e)) (fun i e => k (ix2 i e)) (fun i e => v (ix2 i e)) i e := by
  pointwise [headVec]
  rfl

/-! ## The four heads of a device -/

section Heads
variable {F : FTy → Type} [FloatOps F]

/-- The four heads of a device, side by side. -/
def headsVec (M : IVec S256x256 1) (q k v : FVec F S256x256 .bf16) : FVec F S256x256 .bf16 :=
  concatenate S256x256 1
    [⟨S256x64, headVec M (extractStridedSlice S256x64 ![0, 0] q slices_S256x256_o0_0_S256x64)
        (extractStridedSlice S256x64 ![0, 0] k slices_S256x256_o0_0_S256x64) (extractStridedSlice S256x64 ![0, 0] v slices_S256x256_o0_0_S256x64)⟩,
     ⟨S256x64, headVec M (extractStridedSlice S256x64 ![0, 64] q slices_S256x256_o0_64_S256x64)
        (extractStridedSlice S256x64 ![0, 64] k slices_S256x256_o0_64_S256x64) (extractStridedSlice S256x64 ![0, 64] v slices_S256x256_o0_64_S256x64)⟩,
     ⟨S256x64, headVec M (extractStridedSlice S256x64 ![0, 128] q slices_S256x256_o0_128_S256x64)
        (extractStridedSlice S256x64 ![0, 128] k slices_S256x256_o0_128_S256x64) (extractStridedSlice S256x64 ![0, 128] v slices_S256x256_o0_128_S256x64)⟩,
     ⟨S256x64, headVec M (extractStridedSlice S256x64 ![0, 192] q slices_S256x256_o0_192_S256x64)
        (extractStridedSlice S256x64 ![0, 192] k slices_S256x256_o0_192_S256x64) (extractStridedSlice S256x64 ![0, 192] v slices_S256x256_o0_192_S256x64)⟩]
    concatenates_S256x64_S256x64_S256x64_S256x64_S256x256_d1

/-- The context of batch element 0 is the four heads side by side, -/
theorem own0_eq (B : Blocks F) : B.own0 = headsVec mask B.q0 B.k0 B.v0 := rfl
/-- and so is that of batch element 1. -/
theorem own1_eq (B : Blocks F) : B.own1 = headsVec mask B.q1 B.k1 B.v1 := rfl
/-- What is sent for batch element 0 is that context with a leading axis, -/
theorem sent0_eq (B : Blocks F) : B.sent0 = shapeCast S1x256x256 B.own0 shapeCasts_S256x256_S1x256x256 := rfl
/-- and likewise for batch element 1. -/
theorem sent1_eq (B : Blocks F) : B.sent1 = shapeCast S1x256x256 B.own1 shapeCasts_S256x256_S1x256x256 := rfl

end Heads

/-- Head `h` of the four, at column `e`. -/
theorem heads_at (M : IVec S256x256 1) (q k v : FVec Ideal S256x256 .bf16) (i : Fin 256) (h : Fin 4) (e : Fin 64) :
    headsVec M q k v (ix2 i (col h e)) = attend (fun i j => M (ix2 i j)) (fun i e => q (ix2 i (col h e))) (fun i e => k (ix2 i (col h e)))
      (fun i e => v (ix2 i (col h e))) i e := by
  have he := e.isLt
  pointwise [headsVec, col]
  fin_vals h with hh
  all_goals
    simp only [hh]
    simp (disch := omega) only [dif_pos, dif_neg, head_at]
    refine (congrArg _ (Fin.ext (by simp only []; omega))).trans (b := attend _ _ _ _ i e) ?_
    pointwise

end Cert.Exchange

end
-- ==== Proof.Local.lean ====
/-
  The kernel's result on a device is attention over the whole arrays, when each device's blocks are dealt from them.
-/
module

public import proofs.«01_k».proof.Proof.Head

@[expose] public section

noncomputable section

namespace Cert.Exchange

open Cert.KernelIdeal Cert.KernelIdeal.Gen
open Idealize.ShloMosaic Idealize.ShloMosaic.TcCoe

/-! ## The mask -/

/-- The program's floor division finds the block of a row, -/
theorem row_place (i j : Fin 256) : k0_pay1 (ix2 i j) = place i := by
  pointwise [k0_pay1]
  revert i; decide +kernel

/-- and of a column. -/
theorem col_place (i j : Fin 256) :
    k0_pay3 (iota .tc S256x256 32 [1] iota_S256x256_d1_w32) 64#32 k0_pay2 (ix2 i j) = place j := by
  pointwise [k0_pay3, k0_pay2]
  revert j; decide +kernel

/-- Four blocks cover the sequence, so a block modulo four is itself. -/
theorem row_residue (i j : Fin 256) : k0_pay5 (iota .tc S256x256 32 [1] iota_S256x256_d1_w32) 64#32 k0_pay2 (ix2 i j) = place j := by
  pointwise [k0_pay5]
  rw [col_place i j]
  revert j; decide +kernel

/-- The kernel's mask. -/
theorem mask_at (i j : Fin 256) : mask (ix2 i j) = sees i j := by
  pointwise [mask, k0_pay4, k0_pay6, k0_pay7]
  rw [row_residue i j, row_place, col_place]
  refine congrArg (IntOp.ori _) (congrArg (IntOp.cmpi .eq _) ?_)
  revert i; decide +kernel

/-- The rows of the output weights read at step `r` are those of the device `1 + r` places on. -/
theorem off_eq (c : Dev nD) (r : Fin 4) : k0_off1 c (BitVec.ofNat 32 r.val) = ![256 * ((c + 1 + r : Dev nD) : Fin 4).val, 0] := by
  revert c r; decide +kernel

/-! ## What the loads read -/

namespace Blocks
variable (B : Blocks Ideal)

/-- Batch element `b` of the activations, -/
theorem xb_at (b : Fin 2) (j : Fin 256) (t : Fin 512) : B.xb b (ix3 0 j t) = B.x (ix3 b j t) :=
  congrArg B.x (funext fun a => Fin.ext (by
    fin_cases a
    · show b.val + 1 * 0 = b.val
      omega
    · show 0 + 1 * j.val = j.val
      omega
    · show 0 + 1 * t.val = t.val
      omega))

/-- of the keys, -/
theorem kb_at (b : Fin 2) (j : Fin 256) (t : Fin 256) : B.kb b (ix3 0 j t) = B.k (ix3 b j t) :=
  congrArg B.k (funext fun a => Fin.ext (by
    fin_cases a
    · show b.val + 1 * 0 = b.val
      omega
    · show 0 + 1 * j.val = j.val
      omega
    · show 0 + 1 * t.val = t.val
      omega))

/-- and of the values; -/
theorem vb_at (b : Fin 2) (j : Fin 256) (t : Fin 256) : B.vb b (ix3 0 j t) = B.v (ix3 b j t) :=
  congrArg B.v (funext fun a => Fin.ext (by
    fin_cases a
    · show b.val + 1 * 0 = b.val
      omega
    · show 0 + 1 * j.val = j.val
      omega
    · show 0 + 1 * t.val = t.val
      omega))

/-- the query weights, whole; -/
theorem wqb_at (s : Fin 512) (t : Fin 256) : B.wqb (ix2 s t) = B.wq (ix2 s t) := by
  refine congrArg B.wq (funext fun a => Fin.ext ?_)
  fin_cases a
  · show 0 + 1 * s.val = s.val; omega
  · show 0 + 1 * t.val = t.val; omega

/-- the rows of the output weights at step `r`. -/
theorem wob_at (c : Dev nD) (r : Fin 4) (u : Fin 256) (n : Fin 512) : B.wob c r (ix2 u n) = B.wo (ix2 (wide (c + 1 + r) u) n) := by
  refine congrArg B.wo (funext fun a => Fin.ext ?_)
  fin_cases a
  · show k0_off1 c (BitVec.ofNat 32 r.val) 0 + 1 * u.val = _
    rw [off_eq]
    show 256 * ((c + 1 + r : Dev nD) : Fin 4).val + 1 * u.val = 256 * ((c + 1 + r : Dev nD) : Fin 4).val + u.val
    omega
  · show k0_off1 c (BitVec.ofNat 32 r.val) 1 + 1 * n.val = n.val
    rw [off_eq]
    show 0 + 1 * n.val = n.val
    omega

/-- The queries of either batch element. -/
theorem q0_at (i t : Fin 256) : B.q0 (ix2 i t) = ∑ s, B.x (ix3 0 i s) * B.wq (ix2 s t) := by
  pointwise [q0, k0_pay9, k0_pay8]
  simp only [xb_at, wqb_at]

/-- The same for batch element 1. -/
theorem q1_at (i t : Fin 256) : B.q1 (ix2 i t) = ∑ s, B.x (ix3 1 i s) * B.wq (ix2 s t) := by
  pointwise [q1, k0_pay22, k0_pay8]
  simp only [xb_at, wqb_at]

/-- The keys of either. -/
theorem k0_at (j t : Fin 256) : B.k0 (ix2 j t) = B.k (ix3 0 j t) := by
  pointwise [k0, k0_pay10]
  exact B.kb_at 0 j t

/-- The same for batch element 1. -/
theorem k1_at (j t : Fin 256) : B.k1 (ix2 j t) = B.k (ix3 1 j t) := by
  pointwise [k1, k0_pay23]
  exact B.kb_at 1 j t

/-- The values of either. -/
theorem v0_at (j t : Fin 256) : B.v0 (ix2 j t) = B.v (ix3 0 j t) := by
  pointwise [v0, k0_pay11]
  exact B.vb_at 0 j t

/-- The same for batch element 1. -/
theorem v1_at (j t : Fin 256) : B.v1 (ix2 j t) = B.v (ix3 1 j t) := by
  pointwise [v1, k0_pay24]
  exact B.vb_at 1 j t

/-- The contexts sent are those the device uses itself. -/
theorem sent0_at (i u : Fin 256) : B.sent 0 (ix3 0 i u) = B.own0 (ix2 i u) := by
  rw [sent_zero, sent0_eq]
  pointwise

/-- The same for batch element 1. -/
theorem sent1_at (i u : Fin 256) : B.sent 1 (ix3 0 i u) = B.own1 (ix2 i u) := by
  rw [sent_one, sent1_eq]
  pointwise

variable (c : Dev nD) (X : Dev nD → Fin 2 → Vec Ideal S1x256x256 .bf16)

/-- Either half of the result: the device's own contexts and the three received ones, each against its rows of the weights. -/
theorem out0_at (i : Fin 256) (n : Fin 512) : B.out0 c X (ix3 0 i n) =
    ∑ u, B.own0 (ix2 i u) * B.wo (ix2 (wide (c + 1 + 3) u) n) + ∑ u, X (peer 0 c) 0 (ix3 0 i u) * B.wo (ix2 (wide (c + 1) u) n)
      + ∑ u, X (peer 2 c) 0 (ix3 0 i u) * B.wo (ix2 (wide (c + 1 + 2) u) n)
      + ∑ u, X (peer 1 c) 0 (ix3 0 i u) * B.wo (ix2 (wide (c + 1 + 1) u) n) := by
  pointwise [out0, k0_pay40, k0_pay38, k0_pay37, k0_pay35, k0_pay34, k0_pay31, k0_pay32, k0_pay33]
  simp only [wob_at, add_zero]

/-- The same for batch element 1. -/
theorem out1_at (i : Fin 256) (n : Fin 512) : B.out1 c X (ix3 0 i n) =
    ∑ u, B.own1 (ix2 i u) * B.wo (ix2 (wide (c + 1 + 3) u) n) + ∑ u, X (peer 0 c) 1 (ix3 0 i u) * B.wo (ix2 (wide (c + 1) u) n)
      + ∑ u, X (peer 2 c) 1 (ix3 0 i u) * B.wo (ix2 (wide (c + 1 + 2) u) n)
      + ∑ u, X (peer 1 c) 1 (ix3 0 i u) * B.wo (ix2 (wide (c + 1 + 1) u) n) := by
  pointwise [out1, k0_pay41, k0_pay39, k0_pay36, k0_pay34, k0_pay31, k0_pay32, k0_pay33]
  simp only [wob_at, add_zero]

end Blocks

/-! ## Blocks dealt from whole arrays -/

/-- The head of a head's column, -/
theorem headOf_col (h : Fin 4) (e : Fin 64) : headOf (col h e) = h := by
  ext; simp only [headOf, col]; omega
/-- and the place in it. -/
theorem within_col (h : Fin 4) (e : Fin 64) : within (col h e) = e := by
  ext; simp only [within, col]; omega

/-- The blocks `B` are device `o`'s part of the whole arrays `A`. -/
structure Dealt (A : Whole) (o : Fin 4) (B : Blocks Ideal) : Prop where
  x : ∀ b i s, B.x (ix3 b i s) = A.x b i s
  wq : ∀ s t, B.wq (ix2 s t) = A.wq s (wide o t)
  k : ∀ b j h e, B.k (ix3 b j (col h e)) = A.k b j (head o h) e
  v : ∀ b j h e, B.v (ix3 b j (col h e)) = A.v b j (head o h) e
  wo : ∀ t n, B.wo (ix2 t n) = A.wo t n

namespace Dealt
variable {A : Whole} {o : Fin 4} {B : Blocks Ideal}

/-- A device's contexts are the whole attention's, in its columns. -/
theorem own0 (d : Dealt A o B) (i u : Fin 256) : B.own0 (ix2 i u) = A.ctx 0 o i u := by
  conv_lhs => rw [← col_split u]
  rw [own0_eq, heads_at]
  simp only [mask_at, B.q0_at, B.k0_at, B.v0_at, d.x, d.wq, d.k, d.v]
  rfl

/-- The same for batch element 1. -/
theorem own1 (d : Dealt A o B) (i u : Fin 256) : B.own1 (ix2 i u) = A.ctx 1 o i u := by
  conv_lhs => rw [← col_split u]
  rw [own1_eq, heads_at]
  simp only [mask_at, B.q1_at, B.k1_at, B.v1_at, d.x, d.wq, d.k, d.v]
  rfl

end Dealt

/-- The devices in the order a device adds them, itself first. -/
theorem peers (c : Dev nD) : c + 1 + 3 = c ∧ peer 0 c = c + 1 ∧ peer 2 c = c + 1 + 2 ∧ peer 1 c = c + 1 + 1 := by
  revert c; decide

/-- A sum in that order is the sum over all devices. -/
theorem sum_turn (c : Fin 4) (f : Fin 4 → EReal) : f (c + 1 + 3) + f (c + 1) + f (c + 1 + 2) + f (c + 1 + 1) = ∑ o, f o := by
  rw [Fin.sum_univ_four]
  fin_cases c
  · show f 0 + f 1 + f 3 + f 2 = f 0 + f 1 + f 2 + f 3
    ac_rfl
  · show f 1 + f 2 + f 0 + f 3 = f 0 + f 1 + f 2 + f 3
    ac_rfl
  · show f 2 + f 3 + f 1 + f 0 = f 0 + f 1 + f 2 + f 3
    ac_rfl
  · show f 3 + f 0 + f 2 + f 1 = f 0 + f 1 + f 2 + f 3
    ac_rfl

/-- A position of the result, within its half. -/
theorem inner_ix3 (b : Fin 2) (i : Fin 256) (n : Fin 512) : inner (ix3 b i n) = ix3 0 i n :=
  funext fun a => by fin_cases a <;> rfl

/-- When every device's blocks are dealt from the whole arrays, each device's result is the whole attention's. -/
theorem out_at {A : Whole} {Bs : Dev nD → Blocks Ideal} (d : ∀ o : Dev nD, Dealt A o (Bs o)) (c : Dev nD) (b : Fin 2) (i : Fin 256)
    (n : Fin 512) : (Bs c).out c (fun o h => (Bs o).sent h) (ix3 b i n) = A.result b i n := by
  obtain ⟨p3, p0, p2, p1⟩ := peers c
  fin_cases b
  · refine (congrArg ((Bs c).out0 c fun o h => (Bs o).sent h) (inner_ix3 0 i n)).trans ?_
    rw [Blocks.out0_at]
    simp only [Blocks.sent0_at, (d _).own0, (d c).wo]
    have e := sum_turn c fun o => ∑ u, A.ctx 0 o i u * A.wo (wide o u) n
    rw [p3] at e
    rw [p3, p0, p2, p1]
    exact e
  · refine (congrArg ((Bs c).out1 c fun o h => (Bs o).sent h) (inner_ix3 1 i n)).trans ?_
    rw [Blocks.out1_at]
    simp only [Blocks.sent1_at, (d _).own1, (d c).wo]
    have e := sum_turn c fun o => ∑ u, A.ctx 1 o i u * A.wo (wide o u) n
    rw [p3] at e
    rw [p3, p0, p2, p1]
    exact e

end Cert.Exchange

end
-- ==== Proof.Shards.lean ====
/-
  The blocks a device stages are its part of the whole arrays: the host's slice of the query weights and its flattening of
  the heads, read at an index, for arguments that are the whole arrays or the device's block of them.
-/
module

public import proofs.«01_k».proof.Proof.Local
public import proofs.«01_k».proof.Proof.Window
public import Idealize.ShloMosaic.Lib.LayoutAt
public import Idealize.ShloMosaic.Lib.Claim

@[expose] public section

noncomputable section

namespace Cert.Exchange

open Cert.KernelIdeal Cert.KernelIdeal.Gen
open Idealize.ShloMosaic Idealize.ShloMosaic.TcCoe

/-! ## What the host hands to the kernel -/

/-- The program's word for a device's first column: its position times the width, wrapped if it were negative. -/
def columnWord (w : BitVec 32) : IVec S_ 32 :=
  let p : IVec S_ 32 := muli (id (Host.remui (Host.divui (constantI S_ 32 w) (constantI S_ 32 1#32)) (constantI S_ 32 4#32))) (constantI S_ 32 256#32)
  select (cmpi .slt p (constantI S_ 32 0#32)) (addi p (constantI S_ 32 1024#32)) p

/-- That word is 256 times the device's position. -/
theorem first_column (c : Dev nD) : (columnWord c.word (Shape.Idx.first h_S_)).toInt = 256 * (c.val : ℤ) := by
  pointwise [columnWord]
  revert c; decide +kernel

section Host
variable {F : FTy → Type} [FloatOps F] (m : (ℓ : Loc nD τ sig) → Buf (Elt F) ℓ) (c : Dev nD)

/-- The query weights: the device's slice of the columns. -/
theorem wq_read : V1 m c main_v9 =
    Host.dynamicSlice S512x256 (m ((c.tc : Thread nD τ).loc main_arg1)) ![0, 256 * (c.val : ℤ)] sliceFits_S512x1024_S512x256 := by
  unfold_abbrev_sides
  after_results_simp
  refine congrArg (fun z => Host.dynamicSlice S512x256 (m ((c.tc : Thread nD τ).loc main_arg1)) z sliceFits_S512x1024_S512x256)
    (funext fun k => ?_)
  fin_cases k
  · simp only [Fin.zero_eta, Matrix.cons_val_zero, Fin.isValue]
    after_results_simp
    rfl
  · simp only [Fin.mk_one, Matrix.cons_val_one, Matrix.cons_val_zero, Fin.isValue]
    after_results_simp
    exact first_column c

/-- The keys, heads and places flattened into columns; -/
theorem k_read : V1 m c main_v10 = shapeCast S2x256x256 (m ((c.tc : Thread nD τ).loc main_arg2)) shapeCasts_S2x256x4x64_S2x256x256 := by
  unfold_abbrev_sides
  after_results_simp
  rfl

/-- and the values. -/
theorem v_read : V1 m c main_v11 = shapeCast S2x256x256 (m ((c.tc : Thread nD τ).loc main_arg3)) shapeCasts_S2x256x4x64_S2x256x256 := by
  unfold_abbrev_sides
  after_results_simp
  rfl

end Host

/-! ## The same at an index -/

/-- The slice starts at the device's first column. -/
theorem slice_start (c : Fin 4) : Host.clampedStart S512x1024 S512x256 rfl ![0, 256 * (c.val : ℤ)] 0 = 0
    ∧ Host.clampedStart S512x1024 S512x256 rfl ![0, 256 * (c.val : ℤ)] 1 = 256 * c.val := by
  revert c; decide +kernel

/-- The slice at an index reads the device's columns. -/
theorem slice_at (x : FVec Ideal S512x1024 .bf16) (c : Fin 4) (s : Fin 512) (t : Fin 256) :
    Host.dynamicSlice S512x256 x ![0, 256 * (c.val : ℤ)] sliceFits_S512x1024_S512x256 (ix2 s t) = x (ix2 s (wide c t)) := by
  pointwise
  refine congrArg x (congrArg₂ ix2 (Fin.ext ?_) (Fin.ext ?_))
  · simp only [(slice_start c).1, zero_add]
  · simp only [(slice_start c).2, wide]

/-- The flattened keys or values at a head's column. -/
theorem flat_at (x : FVec Ideal S2x256x4x64 .bf16) (b : Fin 2) (j : Fin 256) (h : Fin 4) (e : Fin 64) :
    shapeCast S2x256x256 x shapeCasts_S2x256x4x64_S2x256x256 (ix3 b j (col h e)) = x (ix4 b j h e) := by
  refine Eq.trans (b := x (ix4 b j (headOf (col h e)) (within (col h e)))) ?_ (by rw [headOf_col, within_col])
  pointwise
  rfl

/-- A device's head among all heads. -/
theorem block_at (x : FVec Ideal ⟨4, ![2, 256, 16, 64]⟩ .bf16) (c : Fin 4) (b : Fin 2) (j : Fin 256) (h : Fin 4) (e : Fin 64) :
    (Layout.block ⟨4, ![2, 256, 4, 64]⟩ ⟨4, ![2, 256, 16, 64]⟩ 2 4 c x) (ix4 b j h e) = x (ix4 b j (head c h) e) := by
  have : (head c h).val = c.val * 4 + h.val := by
    simp only [head]
    omega
  shard_ext

/-! ## The whole arrays and their parts -/

/-- Arrays read by their coordinates. -/
def wholeOf (x : FVec Ideal S2x256x512 .bf16) (wq : FVec Ideal S512x1024 .bf16) (k v : FVec Ideal ⟨4, ![2, 256, 16, 64]⟩ .bf16)
    (wo : FVec Ideal S1024x512 .bf16) : Whole where
  x b i s := x (ix3 b i s)
  wq s t := wq (ix2 s t)
  k b j h e := k (ix4 b j h e)
  v b j h e := v (ix4 b j h e)
  wo t n := wo (ix2 t n)

section Parts
variable (m : (ℓ : Loc nD τ sig) → Buf (Elt Ideal) ℓ)
  {x : FVec Ideal S2x256x512 .bf16} {wq : FVec Ideal S512x1024 .bf16} {k v : FVec Ideal ⟨4, ![2, 256, 16, 64]⟩ .bf16}
  {wo : FVec Ideal S1024x512 .bf16}

/-- A device whose arguments are its parts of the whole arrays stages its part of them. -/
theorem blocks_dealt {c : Dev nD} (h0 : m ((c.tc : Thread nD τ).loc main_arg0) = x) (h1 : m ((c.tc : Thread nD τ).loc main_arg1) = wq)
    (h2 : m ((c.tc : Thread nD τ).loc main_arg2) = Layout.block ⟨4, ![2, 256, 4, 64]⟩ ⟨4, ![2, 256, 16, 64]⟩ 2 4 c k)
    (h3 : m ((c.tc : Thread nD τ).loc main_arg3) = Layout.block ⟨4, ![2, 256, 4, 64]⟩ ⟨4, ![2, 256, 16, 64]⟩ 2 4 c v)
    (h4 : m ((c.tc : Thread nD τ).loc main_arg4) = wo) : Dealt (wholeOf x wq k v wo) c (blocks m c) where
  x b i s := congrFun ((V1_of m c main_arg0 (by decide)).trans h0) (ix3 b i s)
  wq s t := (congrFun (wq_read m c) (ix2 s t)).trans ((slice_at _ c s t).trans (congrFun h1 _))
  k b j h e := (congrFun (k_read m c) (ix3 b j (col h e))).trans ((flat_at _ b j h e).trans ((congrFun h2 _).trans (block_at k c b j h e)))
  v b j h e := (congrFun (v_read m c) (ix3 b j (col h e))).trans ((flat_at _ b j h e).trans ((congrFun h3 _).trans (block_at v c b j h e)))
  wo t n := congrFun ((V1_of m c main_arg4 (by decide)).trans h4) (ix2 t n)

end Parts

end Cert.Exchange

end
-- ==== Proof.Reference.lean ====
/-
  The reference's result term, restated in stages: the mask, the scores, the weights, the contexts and the output projection.
-/
module

public import proofs.«01_k».proof.Proof.Gen.ReferenceIdeal.Run

@[expose] public section

noncomputable section

namespace Cert.Exchange.Reference

open Cert.ReferenceIdeal Cert.ReferenceIdeal.Gen
open Idealize.ShloMosaic Idealize.ShloMosaic.TcCoe

/-! ## The mask -/

/-- The block of 64 of each position, by floor division. -/
def place : IVec S256 32 :=
  let n : IVec S256 32 := iotaInDim S256 32 0
  let w : IVec S_ 32 := id (constantI S_ 32 64#32)
  let d : IVec S256 32 := Host.divsi n (broadcastInDim S256 ![] bcast_S_S256 w)
  select (andi (cmpi .ne (signi n) (broadcastInDim S256 ![] bcast_S_S256 (signi w)))
      (cmpi .ne (Host.remsi n (broadcastInDim S256 ![] bcast_S_S256 w)) (broadcastInDim S256 ![] bcast_S_S256 (constantI S_ 32 0#32))))
    (subi d (broadcastInDim S256 ![] bcast_S_S256 (constantI S_ 32 1#32))) d

/-- The modulus of the second condition, a zero replaced by one. -/
def modulus : IVec S_ 32 :=
  select (cmpi .eq (id (constantI S_ 32 4#32)) (constantI S_ 32 0#32)) (constantI S_ 32 1#32) (id (constantI S_ 32 4#32))

/-- The residue, with the modulus's sign, of the places along a row, -/
def residueRow (p : IVec S1x256 32) : IVec S1x256 32 :=
  let r : IVec S1x256 32 := Host.remsi p (broadcastInDim S1x256 ![] bcast_S_S1x256 modulus)
  let z : IVec S1x256 32 := broadcastInDim S1x256 ![] bcast_S_S1x256 (constantI S_ 32 0#32)
  select (andi (cmpi .ne (cmpi .slt r z) (broadcastInDim S1x256 ![] bcast_S_S1x256 (cmpi .slt modulus (constantI S_ 32 0#32)))) (cmpi .ne r z))
    (addi r (broadcastInDim S1x256 ![] bcast_S_S1x256 modulus)) r

/-- and down a column. -/
def residueColumn (p : IVec S256x1 32) : IVec S256x1 32 :=
  let r : IVec S256x1 32 := Host.remsi p (broadcastInDim S256x1 ![] bcast_S_S256x1 modulus)
  let z : IVec S256x1 32 := broadcastInDim S256x1 ![] bcast_S_S256x1 (constantI S_ 32 0#32)
  select (andi (cmpi .ne (cmpi .slt r z) (broadcastInDim S256x1 ![] bcast_S_S256x1 (cmpi .slt modulus (constantI S_ 32 0#32)))) (cmpi .ne r z))
    (addi r (broadcastInDim S256x1 ![] bcast_S_S256x1 modulus)) r

/-- The mask over queries and keys. -/
def mask : IVec S256x256 1 :=
  let row : IVec S1x256 32 := broadcastInDim S1x256 ![1] bcast_S256_S1x256_1 place
  let column : IVec S256x1 32 := broadcastInDim S256x1 ![0] bcast_S256_S256x1_0 place
  ori (cmpi .eq (broadcastInDim S256x256 ![0, 1] bcast_S256x1_S256x256_0_1 column) (broadcastInDim S256x256 ![0, 1] bcast_S1x256_S256x256_0_1 row))
    (cmpi .eq (broadcastInDim S256x256 ![0, 1] bcast_S1x256_S256x256_0_1 (residueRow row))
      (broadcastInDim S256x256 ![0, 1] bcast_S256x1_S256x256_0_1 (residueColumn column)))

/-- Which queries attend to anything. -/
def keep : IVec S256 1 := Host.reduce IntOp.ori mask (constantI S_ 1 0#1) reducesTo_S256x256_S256_d1 h_S_

/-! ## The values -/

section Values
variable {F : FTy → Type} [FloatOps F]

/-- The queries, by head. -/
def query (x : FVec F S2x256x512 .bf16) (wq : FVec F S512x1024 .bf16) : FVec F S2x256x16x64 .f32 :=
  shapeCast S2x256x16x64 (Host.dotGeneral dot_S2x256x512_S512x1024_S2x256x1024_2_0_01_1_n_n none (extf .f32 x bitsLt_bf16_f32) (extf .f32 wq bitsLt_bf16_f32))
    shapeCasts_S2x256x1024_S2x256x16x64

/-- The masked scores, for any mask. -/
def score (M : IVec S256x256 1) (q k : FVec F S2x256x16x64 .f32) : FVec F S2x16x256x256 .f32 :=
  select (broadcastInDim S2x16x256x256 ![0, 1, 2, 3] bcast_S1x1x256x256_S2x16x256x256_0_1_2_3
      (broadcastInDim S1x1x256x256 ![2, 3] bcast_S256x256_S1x1x256x256_2_3 M))
    (mulf (Host.dotGeneral dot_S2x256x16x64_S2x256x16x64_S2x16x256x256_3_3_1_1_02_02 none q k)
      (broadcastInDim S2x16x256x256 ![] bcast_S_S2x16x256x256 (constant S_ .f32 0x3E000000#32)))
    (broadcastInDim S2x16x256x256 ![] bcast_S_S2x16x256x256 (id (constant S_ .f32 0xCE6E6B28#32)))

/-- The unnormalised weights. -/
def weight (s : FVec F S2x16x256x256 .f32) : FVec F S2x16x256x256 .f32 :=
  Host.exp (subf s (broadcastInDim S2x16x256x256 ![0, 1, 2, 3] bcast_S2x16x256x1_S2x16x256x256_0_1_2_3
    (broadcastInDim S2x16x256x1 ![0, 1, 2] bcast_S2x16x256_S2x16x256x1_0_1_2
      (Host.reduce FloatOps.maximumf s (constant S_ .f32 0xFF800000#32) reducesTo_S2x16x256x256_S2x16x256_d3 h_S_))))

/-- The weights over their sum, for the queries that attend to anything. -/
def share (K : IVec S256 1) (w : FVec F S2x16x256x256 .f32) : FVec F S2x16x256x256 .f32 :=
  select (broadcastInDim S2x16x256x256 ![0, 1, 2, 3] bcast_S1x1x256x1_S2x16x256x256_0_1_2_3 (broadcastInDim S1x1x256x1 ![2] bcast_S256_S1x1x256x1_2 K))
    (Host.divf w (broadcastInDim S2x16x256x256 ![0, 1, 2, 3] bcast_S2x16x256x1_S2x16x256x256_0_1_2_3
      (select (broadcastInDim S2x16x256x1 ![0, 1, 2, 3] bcast_S1x1x256x1_S2x16x256x1_0_1_2_3 (broadcastInDim S1x1x256x1 ![2] bcast_S256_S1x1x256x1_2 K))
        (broadcastInDim S2x16x256x1 ![0, 1, 2] bcast_S2x16x256_S2x16x256x1_0_1_2
          (Host.reduceAdd w (constant S_ .f32 0x00000000#32) reducesTo_S2x16x256x256_S2x16x256_d3 h_S_))
        (broadcastInDim S2x16x256x1 ![] bcast_S_S2x16x256x1 (id (constant S_ .f32 0x3F800000#32))))))
    (broadcastInDim S2x16x256x256 ![] bcast_S_S2x16x256x256 (id (constant S_ .f32 0x00000000#32)))

/-- The contexts, all heads side by side. -/
def context (p : FVec F S2x16x256x256 .f32) (v : FVec F S2x256x16x64 .bf16) : FVec F S2x256x1024 .f32 :=
  shapeCast S2x256x1024 (transpose S2x256x16x64 [0, 3, 1, 2]
    (Host.dotGeneral dot_S2x256x16x64_S2x16x256x256_S2x16x64x256_1_3_3_2_02_01 none (extf .f32 v bitsLt_bf16_f32) p)
    transposes_S2x16x64x256_S2x256x16x64_0_3_1_2) shapeCasts_S2x256x16x64_S2x256x1024

/-- The output projection. -/
def project (c : FVec F S2x256x1024 .f32) (wo : FVec F S1024x512 .bf16) : FVec F S2x256x512 .f32 :=
  Host.dotGeneral dot_S2x256x1024_S1024x512_S2x256x512_2_0_01_1_n_n none c (extf .f32 wo bitsLt_bf16_f32)

/-- The whole reference, of its five arguments. -/
def result (x : FVec F S2x256x512 .bf16) (wq : FVec F S512x1024 .bf16) (k v : FVec F S2x256x16x64 .bf16) (wo : FVec F S1024x512 .bf16) :
    FVec F S2x256x512 .f32 :=
  project (context (share keep (weight (score mask (query x wq) (extf .f32 k bitsLt_bf16_f32)))) v) wo

/-- The generated result term is the staged one. -/
theorem result_eq (m : (ℓ : Loc nD τ sig) → Buf (Elt F) ℓ) (c : Dev nD) : Value.res_main_v44 m c =
    result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v44
  rfl

end Values

end Cert.Exchange.Reference

end
-- ==== Proof.Whole.lean ====
/-
  The reference's result is attention over the whole arrays, read at an index.
-/
module

public import proofs.«01_k».proof.Proof.Reference
public import proofs.«01_k».proof.Proof.Attend
public import Idealize.ShloMosaic.Lib.Routing.OpsOrder

@[expose] public section

noncomputable section

namespace Cert.Exchange.Reference

open Cert.ReferenceIdeal Cert.ReferenceIdeal.Gen
open Idealize.ShloMosaic Idealize.ShloMosaic.TcCoe

/-! ## The mask -/

/-- Floor division finds the block of a position. -/
theorem place_at (i : Fin 256) : place (ix1 i) = Exchange.place i := by
  pointwise [place]
  revert i; decide +kernel

/-- Four blocks cover the sequence, so the residues are the blocks themselves. -/
theorem row_at (p : IVec S1x256 32) (j : Fin 256) (h : p (ix2 0 j) = Exchange.place j) : residueRow p (ix2 0 j) = Exchange.place j := by
  pointwise [residueRow, modulus]
  rw [h]
  clear h
  revert j; decide +kernel

/-- The same down a column. -/
theorem column_at (p : IVec S256x1 32) (j : Fin 256) (h : p (ix2 j 0) = Exchange.place j) : residueColumn p (ix2 j 0) = Exchange.place j := by
  pointwise [residueColumn, modulus]
  rw [h]
  clear h
  revert j; decide +kernel

/-- The reference's mask. -/
theorem mask_at (i j : Fin 256) : mask (ix2 i j) = sees i j := by
  pointwise [mask]
  rw [row_at _ _ ?_, column_at _ _ ?_, place_at, place_at]
  · rfl
  · pointwise
    exact place_at i
  · pointwise
    exact place_at j

/-- Every query attends to something: to itself. -/
theorem keep_at (i : Fin 256) : keep (ix1 i) = 1#1 := by
  pointwise [keep]
  exact (Routing.fold_ori _ _).2 ⟨i, Finset.mem_univ i, (mask_at i i).trans (sees_self i)⟩

/-! ## The values -/

/-- The queries, in the columns of device `o`'s head `h`. -/
theorem query_at (x : FVec Ideal S2x256x512 .bf16) (wq : FVec Ideal S512x1024 .bf16) (b : Fin 2) (i : Fin 256) (o h : Fin 4) (e : Fin 64) :
    query x wq (ix4 b i (head o h) e) = ∑ s, x (ix3 b i s) * wq (ix2 s (wide o (col h e))) := by
  pointwise [query]
  refine Finset.sum_congr rfl fun s _ => congrArg (x (ix3 b i s) * ·) (congrArg (fun t => wq (ix2 s t)) (Fin.ext ?_))
  simp only [head, wide, col]
  omega

/-- The reference's masked scores, -/
theorem score_at (M : IVec S256x256 1) (q k : FVec Ideal S2x256x16x64 .f32) (b : Fin 2) (h : Fin 16) (i j : Fin 256) :
    score M q k (ix4 b h i j) = Exchange.score (fun i j => M (ix2 i j)) (fun i e => q (ix4 b i h e)) (fun j e => k (ix4 b j h e)) i j := by
  pointwise [score]
  rfl

/-- and its unnormalised weights, of one head. -/
theorem weight_at (M : IVec S256x256 1) (q k : FVec Ideal S2x256x16x64 .f32) (b : Fin 2) (h : Fin 16) (i j : Fin 256) :
    weight (score M q k) (ix4 b h i j) =
      Exchange.weight (fun i j => M (ix2 i j)) (fun i e => q (ix4 b i h e)) (fun j e => k (ix4 b j h e)) i j := by
  pointwise [weight]
  simp only [score_at]
  rfl

/-- Where every query attends to something, the share is the weight over the sum of the weights. -/
theorem share_at (w : FVec Ideal S2x16x256x256 .f32) (b : Fin 2) (h : Fin 16) (i j : Fin 256) :
    share keep w (ix4 b h i j) = Ideal.div (w (ix4 b h i j)) (∑ j', w (ix4 b h i j')) := by
  pointwise [share]
  simp only [keep_at]
  rfl

/-- The contexts in the columns of device `o`. -/
theorem context_at (p : FVec Ideal S2x16x256x256 .f32) (v : FVec Ideal S2x256x16x64 .bf16) (b : Fin 2) (i : Fin 256) (o : Fin 4) (u : Fin 256) :
    context p v (ix3 b i (wide o u)) = ∑ j, p (ix4 b (head o (headOf u)) i j) * v (ix4 b j (head o (headOf u)) (within u)) := by
  have hh : (⟨(wide o u).val / 64, by omega⟩ : Fin 16) = head o (headOf u) := by
    ext; simp only [wide, head, headOf]; omega
  have hw : (⟨(wide o u).val % 64, by omega⟩ : Fin 64) = within u := by
    ext; simp only [wide, within]; omega
  pointwise [context]
  rw [hh, hw]
  exact Finset.sum_congr rfl fun j _ => mul_comm _ _

/-- The output projection, summed device by device. -/
theorem project_at (c : FVec Ideal S2x256x1024 .f32) (wo : FVec Ideal S1024x512 .bf16) (b : Fin 2) (i : Fin 256) (n : Fin 512) :
    project c wo (ix3 b i n) = ∑ o, ∑ u, c (ix3 b i (wide o u)) * wo (ix2 (wide o u) n) := by
  pointwise [project]
  exact sum_wide fun t => c (ix3 b i t) * wo (ix2 t n)

end Cert.Exchange.Reference

end
-- ==== Proof.Equal.lean ====
/-
  The two programs' results are one array over the extended reals, and the claim that says so of their runs.
-/
module

public import proofs.«01_k».proof.Defs
public import proofs.«01_k».proof.Proof.Run
public import proofs.«01_k».proof.Proof.Shards
public import proofs.«01_k».proof.Proof.Whole

@[expose] public section

noncomputable section

namespace Cert.Exchange

open Idealize.ShloMosaic Idealize.ShloMosaic.TcCoe Idealize.SL.Sem

/-- The reference's result at an index. -/
theorem reference_at (x : FVec Ideal Cert.ReferenceIdeal.S2x256x512 .bf16) (wq : FVec Ideal Cert.ReferenceIdeal.S512x1024 .bf16)
    (k v : FVec Ideal Cert.ReferenceIdeal.S2x256x16x64 .bf16) (wo : FVec Ideal Cert.ReferenceIdeal.S1024x512 .bf16)
    (b : Fin 2) (i : Fin 256) (n : Fin 512) : Reference.result x wq k v wo (ix3 b i n) = (wholeOf x wq k v wo).result b i n := by
  unfold Reference.result
  rw [Reference.project_at]
  simp only [Reference.context_at, Reference.share_at, Reference.weight_at, Reference.mask_at, Reference.query_at]
  rfl

/-- With the kernel's arguments the parts of the reference's, every device's result is the reference's. -/
theorem results_equal (m : (ℓ : Loc Cert.KernelIdeal.nD Cert.KernelIdeal.τ Cert.KernelIdeal.sig) → Buf (Elt Ideal) ℓ)
    {x : FVec Ideal Cert.ReferenceIdeal.S2x256x512 .bf16} {wq : FVec Ideal Cert.ReferenceIdeal.S512x1024 .bf16}
    {k v : FVec Ideal Cert.ReferenceIdeal.S2x256x16x64 .bf16} {wo : FVec Ideal Cert.ReferenceIdeal.S1024x512 .bf16}
    (h : ∀ o : Dev Cert.KernelIdeal.nD, Dealt (wholeOf x wq k v wo) o (blocks m o)) (c : Dev Cert.KernelIdeal.nD) :
    Exchange.result m c = Reference.result x wq k v wo := by
  funext j
  idx_vars j
  exact (out_at h c _ _ _).trans (reference_at x wq k v wo _ _ _).symm

/-- Over the extended reals the kernel leaves on every device what the reference computes from the whole arrays. -/
theorem equal : Cert.algebraic_KernelIdeal_ReferenceIdeal (hKernelIdeal := Cert.KernelIdeal.Gen.facts)
    (hReferenceIdeal := Cert.ReferenceIdeal.Gen.facts) := fun m g m' g' _ h =>
  have hd : ∀ o : Dev Cert.KernelIdeal.nD, Dealt _ o (blocks m o) := fun o =>
    blocks_dealt m (h o).1 (h o).2.1 (h o).2.2.1 (h o).2.2.2.1 (h o).2.2.2.2
  ⟨Cert.ReferenceIdeal.Value.res_main_v44 m' 0,
    (θ_run Cert.KernelIdeal.defs _ _).mono
      (fun _ hr c => ⟨(hr.1 c).1.trans ((results_equal m hd c).trans (Reference.result_eq m' 0).symm), (hr.1 c).2⟩) (run_main m g),
    (θ_run Cert.ReferenceIdeal.defs _ _).mono (fun _ hr => hr 0) (Cert.ReferenceIdeal.Value.run (F := Ideal) m' g')⟩

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Exchange.frame_kernel, Cert.Exchange.frame_ideal, Cert.Exchange.frame_reference, trivial, Cert.Exchange.equal⟩

end Cert.Proof

end
